-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def preserves_Kernel_KernelIdeal : Prop :=
  IdealRules.named_const.Statement Cert.KernelIdeal.κ "inv_steps" .f32 0x3D4CCCCD#32 ((1 / 20 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x512x256 : Shape := ⟨3, ![4, 512, 256]⟩
abbrev S256x256 : Shape := ⟨2, ![256, 256]⟩
abbrev S256 : Shape := ⟨1, ![256]⟩
abbrev S64x256 : Shape := ⟨2, ![64, 256]⟩
abbrev S64 : Shape := ⟨1, ![64]⟩
abbrev S32x64 : Shape := ⟨2, ![32, 64]⟩
abbrev S32 : Shape := ⟨1, ![32]⟩
abbrev S1x32 : Shape := ⟨2, ![1, 32]⟩
abbrev S1 : Shape := ⟨1, ![1]⟩
abbrev S32x256 : Shape := ⟨2, ![32, 256]⟩
abbrev S_ : Shape := ⟨0, ![]⟩
abbrev S6 : Shape := ⟨1, ![6]⟩
abbrev S1x6 : Shape := ⟨2, ![1, 6]⟩
abbrev S128x32 : Shape := ⟨2, ![128, 32]⟩
abbrev S1x256 : Shape := ⟨2, ![1, 256]⟩
abbrev S1x64 : Shape := ⟨2, ![1, 64]⟩
abbrev S1x1 : Shape := ⟨2, ![1, 1]⟩
abbrev S1x512x256 : Shape := ⟨3, ![1, 512, 256]⟩
abbrev S8x512x640 : Shape := ⟨3, ![8, 512, 640]⟩
abbrev S512x256 : Shape := ⟨2, ![512, 256]⟩
abbrev S512x64 : Shape := ⟨2, ![512, 64]⟩
abbrev S512x32 : Shape := ⟨2, ![512, 32]⟩
abbrev S512x128 : Shape := ⟨2, ![512, 128]⟩
abbrev S512x1 : Shape := ⟨2, ![512, 1]⟩
abbrev S64x1 : Shape := ⟨2, ![64, 1]⟩
abbrev S64x32 : Shape := ⟨2, ![64, 32]⟩
abbrev S1x64x32 : Shape := ⟨3, ![1, 64, 32]⟩
abbrev S8x512 : Shape := ⟨2, ![8, 512]⟩
abbrev S1x512x640 : Shape := ⟨3, ![1, 512, 640]⟩
abbrev S512x640 : Shape := ⟨2, ![512, 640]⟩
abbrev S512x512 : Shape := ⟨2, ![512, 512]⟩
abbrev S512 : Shape := ⟨1, ![512]⟩
abbrev S512x8 : Shape := ⟨2, ![512, 8]⟩

abbrev nBuf : Space → Nat
  | .hbm => 49
  | .vmem => 23
  | .smem => 1
  | _ => 0

abbrev bufTy : (tb : Table) → Fin (tcTables nBuf tb) → BufTy
  | .hbm, ⟨0, _⟩ => ⟨S4x512x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256, .f32⟩
  | .hbm, ⟨6, _⟩ => ⟨S64x256, .f32⟩
  | .hbm, ⟨7, _⟩ => ⟨S64, .f32⟩
  | .hbm, ⟨8, _⟩ => ⟨S32x64, .f32⟩
  | .hbm, ⟨9, _⟩ => ⟨S32, .f32⟩
  | .hbm, ⟨10, _⟩ => ⟨S1x32, .f32⟩
  | .hbm, ⟨11, _⟩ => ⟨S1, .f32⟩
  | .hbm, ⟨12, _⟩ => ⟨S32x256, .f32⟩
  | .hbm, ⟨13, _⟩ => ⟨S32, .f32⟩
  | .hbm, ⟨14, _⟩ => ⟨S1x32, .f32⟩
  | .hbm, ⟨15, _⟩ => ⟨S1, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S1, .f32⟩
  | .hbm, ⟨23, _⟩ => ⟨S1, .f32⟩
  | .hbm, ⟨24, _⟩ => ⟨S1, .f32⟩
  | .hbm, ⟨25, _⟩ => ⟨S1, .f32⟩
  | .hbm, ⟨26, _⟩ => ⟨S1, .f32⟩
  | .hbm, ⟨27, _⟩ => ⟨S1, .f32⟩
  | .hbm, ⟨28, _⟩ => ⟨S6, .f32⟩
  | .hbm, ⟨29, _⟩ => ⟨S1x6, .f32⟩
  | .hbm, ⟨30, _⟩ => ⟨S_, .f32⟩
  | .hbm, ⟨31, _⟩ => ⟨S128x32, .f32⟩
  | .hbm, ⟨32, _⟩ => ⟨S32, .f32⟩
  | .hbm, ⟨33, _⟩ => ⟨S_, .i32⟩
  | .hbm, ⟨34, _⟩ => ⟨S1, .i32⟩
  | .hbm, ⟨35, _⟩ => ⟨S128x32, .f32⟩
  | .hbm, ⟨36, _⟩ => ⟨S_, .f32⟩
  | .hbm, ⟨37, _⟩ => ⟨S128x32, .f32⟩
  | .hbm, ⟨38, _⟩ => ⟨S32, .f32⟩
  | .hbm, ⟨39, _⟩ => ⟨S_, .i32⟩
  | .hbm, ⟨40, _⟩ => ⟨S1, .i32⟩
  | .hbm, ⟨41, _⟩ => ⟨S128x32, .f32⟩
  | .hbm, ⟨42, _⟩ => ⟨S1x256, .f32⟩
  | .hbm, ⟨43, _⟩ => ⟨S1x64, .f32⟩
  | .hbm, ⟨44, _⟩ => ⟨S1x32, .f32⟩
  | .hbm, ⟨45, _⟩ => ⟨S1x1, .f32⟩
  | .hbm, ⟨46, _⟩ => ⟨S1x32, .f32⟩
  | .hbm, ⟨47, _⟩ => ⟨S1x1, .f32⟩
  | .hbm, ⟨48, _⟩ => ⟨S4x512x256, .f32⟩
  | .local _ .vmem, ⟨0, _⟩ => ⟨S1x512x256, .f32⟩
  | .local _ .vmem, ⟨1, _⟩ => ⟨S1x512x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S1x256, .f32⟩
  | .local _ .vmem, ⟨7, _⟩ => ⟨S64x256, .f32⟩
  | .local _ .vmem, ⟨8, _⟩ => ⟨S1x64, .f32⟩
  | .local _ .vmem, ⟨9, _⟩ => ⟨S32x64, .f32⟩
  | .local _ .vmem, ⟨10, _⟩ => ⟨S1x32, .f32⟩
  | .local _ .vmem, ⟨11, _⟩ => ⟨S128x32, .f32⟩
  | .local _ .vmem, ⟨12, _⟩ => ⟨S1x1, .f32⟩
  | .local _ .vmem, ⟨13, _⟩ => ⟨S32x256, .f32⟩
  | .local _ .vmem, ⟨14, _⟩ => ⟨S1x32, .f32⟩
  | .local _ .vmem, ⟨15, _⟩ => ⟨S128x32, .f32⟩
  | .local _ .vmem, ⟨16, _⟩ => ⟨S1x1, .f32⟩
  | .local _ .vmem, ⟨17, _⟩ => ⟨S1x512x256, .f32⟩
  | .local _ .vmem, ⟨18, _⟩ => ⟨S1x512x256, .f32⟩
  | .local _ .vmem, ⟨19, _⟩ => ⟨S8x512x640, .i8⟩
  | .local _ .vmem, ⟨20, _⟩ => ⟨S8x512x640, .i8⟩
  | .local _ .vmem, ⟨21, _⟩ => ⟨S512x256, .f32⟩
  | .local _ .vmem, ⟨22, _⟩ => ⟨S512x256, .f32⟩
  | .local _ .smem, ⟨0, _⟩ => ⟨S1x6, .f32⟩
  | _, _ => ⟨S4x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_cst : Ref sig .tc := ⟨.hbm, 30, rfl⟩
abbrev main_call0_v8 : Ref sig .tc := ⟨.hbm, 31, rfl⟩
abbrev main_call0_v9 : Ref sig .tc := ⟨.hbm, 32, rfl⟩
abbrev main_call0_c : Ref sig .tc := ⟨.hbm, 33, rfl⟩
abbrev main_call0_v10 : Ref sig .tc := ⟨.hbm, 34, rfl⟩
abbrev main_call0_v11 : Ref sig .tc := ⟨.hbm, 35, rfl⟩
abbrev main_call0_cst_0 : Ref sig .tc := ⟨.hbm, 36, rfl⟩
abbrev main_call0_v12 : Ref sig .tc := ⟨.hbm, 37, rfl⟩
abbrev main_call0_v13 : Ref sig .tc := ⟨.hbm, 38, rfl⟩
abbrev main_call0_c_1 : Ref sig .tc := ⟨.hbm, 39, rfl⟩
abbrev main_call0_v14 : Ref sig .tc := ⟨.hbm, 40, rfl⟩
abbrev main_call0_v15 : Ref sig .tc := ⟨.hbm, 41, rfl⟩
abbrev main_call0_v16 : Ref sig .tc := ⟨.hbm, 42, rfl⟩
abbrev main_call0_v17 : Ref sig .tc := ⟨.hbm, 43, rfl⟩
abbrev main_call0_v18 : Ref sig .tc := ⟨.hbm, 44, rfl⟩
abbrev main_call0_v19 : Ref sig .tc := ⟨.hbm, 45, rfl⟩
abbrev main_call0_v20 : Ref sig .tc := ⟨.hbm, 46, rfl⟩
abbrev main_call0_v21 : Ref sig .tc := ⟨.hbm, 47, rfl⟩
abbrev main_v0 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg17_0 : Ref sig .tc := ⟨.vmem, 17, rfl⟩
abbrev cc0_stg17_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_stg16_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem17_1 : DmaSem sig := 19

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S32x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x32 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x32 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .smem S1x6 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S1x512x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== KernelIdeal.lean ====
variable {F : FTy → Type} [FloatOps F] [Named F]
def κ : String → Option EReal := fun
  | "inv_steps" => some ((1 / 20 : ℝ) : EReal)
  | _ => none
-- ==== ReferenceIdeal.lean ====
abbrev S4x512x256 : Shape := ⟨3, ![4, 512, 256]⟩
abbrev S256x256 : Shape := ⟨2, ![256, 256]⟩
abbrev S256 : Shape := ⟨1, ![256]⟩
abbrev S64x256 : Shape := ⟨2, ![64, 256]⟩
abbrev S64 : Shape := ⟨1, ![64]⟩
abbrev S32x64 : Shape := ⟨2, ![32, 64]⟩
abbrev S32 : Shape := ⟨1, ![32]⟩
abbrev S1x32 : Shape := ⟨2, ![1, 32]⟩
abbrev S1 : Shape := ⟨1, ![1]⟩
abbrev S32x256 : Shape := ⟨2, ![32, 256]⟩
abbrev S_ : Shape := ⟨0, ![]⟩
abbrev S20x4x512x256 : Shape := ⟨4, ![20, 4, 512, 256]⟩
abbrev S1x4x512x256 : Shape := ⟨4, ![1, 4, 512, 256]⟩
abbrev S256x64 : Shape := ⟨2, ![256, 64]⟩
abbrev S4x512x64 : Shape := ⟨3, ![4, 512, 64]⟩
abbrev S1x1x64 : Shape := ⟨3, ![1, 1, 64]⟩
abbrev S64x32 : Shape := ⟨2, ![64, 32]⟩
abbrev S4x512x32 : Shape := ⟨3, ![4, 512, 32]⟩
abbrev S1x1x32 : Shape := ⟨3, ![1, 1, 32]⟩
abbrev S32x1 : Shape := ⟨2, ![32, 1]⟩
abbrev S4x512x1 : Shape := ⟨3, ![4, 512, 1]⟩
abbrev S1x1x1 : Shape := ⟨3, ![1, 1, 1]⟩
abbrev S256x32 : Shape := ⟨2, ![256, 32]⟩
abbrev S4x512 : Shape := ⟨2, ![4, 512]⟩
abbrev S20 : Shape := ⟨1, ![20]⟩
abbrev S1x1x20 : Shape := ⟨3, ![1, 1, 20]⟩
abbrev S4x512x20 : Shape := ⟨3, ![4, 512, 20]⟩
abbrev S4x512x20x256 : Shape := ⟨4, ![4, 512, 20, 256]⟩
abbrev S4x512x20x1 : Shape := ⟨4, ![4, 512, 20, 1]⟩
abbrev S4x512x20x8x32 : Shape := ⟨5, ![4, 512, 20, 8, 32]⟩
abbrev S4x8x512x512 : Shape := ⟨4, ![4, 8, 512, 512]⟩
abbrev S4x8x512 : Shape := ⟨3, ![4, 8, 512]⟩
abbrev S4x8x512x1 : Shape := ⟨4, ![4, 8, 512, 1]⟩
abbrev S4x512x8x32 : Shape := ⟨4, ![4, 512, 8, 32]⟩
abbrev S4x8x512x32 : Shape := ⟨4, ![4, 8, 512, 32]⟩
abbrev S1x1x256 : Shape := ⟨3, ![1, 1, 256]⟩

abbrev nBuf : Space → Nat
  | .hbm => 244
  | .vmem => 0
  | .smem => 0
  | _ => 0

abbrev hbmTy0_0 (i : Nat) : BufTy := match i % 128 with
  | 0 => ⟨S4x512x256, .f32⟩
  | 1 => ⟨S256x256, .f32⟩
  | 2 => ⟨S256x256, .f32⟩
  | 3 => ⟨S256x256, .f32⟩
  | 4 => ⟨S256x256, .f32⟩
  | 5 => ⟨S256, .f32⟩
  | 6 => ⟨S64x256, .f32⟩
  | 7 => ⟨S64, .f32⟩
  | 8 => ⟨S32x64, .f32⟩
  | 9 => ⟨S32, .f32⟩
  | 10 => ⟨S1x32, .f32⟩
  | 11 => ⟨S1, .f32⟩
  | 12 => ⟨S32x256, .f32⟩
  | 13 => ⟨S32, .f32⟩
  | 14 => ⟨S1x32, .f32⟩
  | 15 => ⟨S1, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S256x256, .f32⟩
  | 23 => ⟨S4x512x256, .f32⟩
  | 24 => ⟨S256x256, .f32⟩
  | 25 => ⟨S4x512x256, .f32⟩
  | 26 => ⟨S256x256, .f32⟩
  | 27 => ⟨S4x512x256, .f32⟩
  | 28 => ⟨S_, .f32⟩
  | 29 => ⟨S4x512x256, .f32⟩
  | 30 => ⟨S_, .f32⟩
  | 31 => ⟨S4x512x256, .f32⟩
  | 32 => ⟨S_, .f32⟩
  | 33 => ⟨S20x4x512x256, .f32⟩
  | 34 => ⟨S_, .f32⟩
  | 35 => ⟨S20x4x512x256, .f32⟩
  | 36 => ⟨S_, .f32⟩
  | 37 => ⟨S20x4x512x256, .f32⟩
  | 38 => ⟨S_, .i32⟩
  | 39 => ⟨S_, .f32⟩
  | 40 => ⟨S4x512x256, .f32⟩
  | 41 => ⟨S_, .f32⟩
  | 42 => ⟨S_, .f32⟩
  | 43 => ⟨S4x512x256, .f32⟩
  | 44 => ⟨S_, .f32⟩
  | 45 => ⟨S_, .f32⟩
  | 46 => ⟨S4x512x256, .f32⟩
  | 47 => ⟨S_, .f32⟩
  | 48 => ⟨S_, .i32⟩
  | 49 => ⟨S4x512x256, .f32⟩
  | 50 => ⟨S4x512x256, .f32⟩
  | 51 => ⟨S4x512x256, .f32⟩
  | 52 => ⟨S4x512x256, .f32⟩
  | 53 => ⟨S4x512x256, .f32⟩
  | 54 => ⟨S4x512x256, .f32⟩
  | 55 => ⟨S20x4x512x256, .f32⟩
  | 56 => ⟨S20x4x512x256, .f32⟩
  | 57 => ⟨S20x4x512x256, .f32⟩
  | 58 => ⟨S_, .i32⟩
  | 59 => ⟨S_, .i1⟩
  | 60 => ⟨S4x512x256, .f32⟩
  | 61 => ⟨S4x512x256, .f32⟩
  | 62 => ⟨S4x512x256, .f32⟩
  | 63 => ⟨S4x512x256, .f32⟩
  | 64 => ⟨S4x512x256, .f32⟩
  | 65 => ⟨S4x512x256, .f32⟩
  | 66 => ⟨S_, .f32⟩
  | 67 => ⟨S4x512x256, .f32⟩
  | 68 => ⟨S4x512x256, .i1⟩
  | 69 => ⟨S4x512x256, .f32⟩
  | 70 => ⟨S_, .f32⟩
  | 71 => ⟨S4x512x256, .f32⟩
  | 72 => ⟨S4x512x256, .f32⟩
  | 73 => ⟨S4x512x256, .f32⟩
  | 74 => ⟨S4x512x256, .f32⟩
  | 75 => ⟨S4x512x256, .f32⟩
  | 76 => ⟨S4x512x256, .f32⟩
  | 77 => ⟨S4x512x256, .f32⟩
  | 78 => ⟨S4x512x256, .f32⟩
  | 79 => ⟨S4x512x256, .f32⟩
  | 80 => ⟨S_, .f32⟩
  | 81 => ⟨S4x512x256, .f32⟩
  | 82 => ⟨S4x512x256, .i1⟩
  | 83 => ⟨S4x512x256, .f32⟩
  | 84 => ⟨S_, .f32⟩
  | 85 => ⟨S4x512x256, .f32⟩
  | 86 => ⟨S4x512x256, .f32⟩
  | 87 => ⟨S4x512x256, .f32⟩
  | 88 => ⟨S4x512x256, .f32⟩
  | 89 => ⟨S4x512x256, .f32⟩
  | 90 => ⟨S4x512x256, .f32⟩
  | 91 => ⟨S4x512x256, .f32⟩
  | 92 => ⟨S4x512x256, .f32⟩
  | 93 => ⟨S4x512x256, .f32⟩
  | 94 => ⟨S_, .f32⟩
  | 95 => ⟨S4x512x256, .f32⟩
  | 96 => ⟨S4x512x256, .i1⟩
  | 97 => ⟨S4x512x256, .f32⟩
  | 98 => ⟨S_, .f32⟩
  | 99 => ⟨S4x512x256, .f32⟩
  | 100 => ⟨S4x512x256, .f32⟩
  | 101 => ⟨S4x512x256, .f32⟩
  | 102 => ⟨S1x4x512x256, .f32⟩
  | 103 => ⟨S_, .i32⟩
  | 104 => ⟨S_, .i32⟩
  | 105 => ⟨S_, .i32⟩
  | 106 => ⟨S20x4x512x256, .f32⟩
  | 107 => ⟨S1x4x512x256, .f32⟩
  | 108 => ⟨S_, .i32⟩
  | 109 => ⟨S_, .i32⟩
  | 110 => ⟨S_, .i32⟩
  | 111 => ⟨S20x4x512x256, .f32⟩
  | 112 => ⟨S1x4x512x256, .f32⟩
  | 113 => ⟨S_, .i32⟩
  | 114 => ⟨S_, .i32⟩
  | 115 => ⟨S_, .i32⟩
  | 116 => ⟨S20x4x512x256, .f32⟩
  | 117 => ⟨S_, .i32⟩
  | 118 => ⟨S_, .i32⟩
  | 119 => ⟨S256x64, .f32⟩
  | 120 => ⟨S4x512x64, .f32⟩
  | 121 => ⟨S1x1x64, .f32⟩
  | 122 => ⟨S4x512x64, .f32⟩
  | 123 => ⟨S4x512x64, .f32⟩
  | 124 => ⟨S_, .f32⟩
  | 125 => ⟨S4x512x64, .f32⟩
  | 126 => ⟨S4x512x64, .f32⟩
  | 127 => ⟨S64x32, .f32⟩
  | _ => ⟨S4x512x256, .f32⟩

abbrev hbmTy0_1 (i : Nat) : BufTy := match i % 128 with
  | 0 => ⟨S4x512x32, .f32⟩
  | 1 => ⟨S1x1x32, .f32⟩
  | 2 => ⟨S4x512x32, .f32⟩
  | 3 => ⟨S4x512x32, .f32⟩
  | 4 => ⟨S_, .f32⟩
  | 5 => ⟨S4x512x32, .f32⟩
  | 6 => ⟨S4x512x32, .f32⟩
  | 7 => ⟨S32x1, .f32⟩
  | 8 => ⟨S4x512x1, .f32⟩
  | 9 => ⟨S1x1x1, .f32⟩
  | 10 => ⟨S4x512x1, .f32⟩
  | 11 => ⟨S4x512x1, .f32⟩
  | 12 => ⟨S4x512x1, .f32⟩
  | 13 => ⟨S4x512x1, .f32⟩
  | 14 => ⟨S_, .f32⟩
  | 15 => ⟨S4x512x1, .f32⟩
  | 16 => ⟨S4x512x1, .f32⟩
  | 17 => ⟨S_, .f32⟩
  | 18 => ⟨S4x512x1, .f32⟩
  | 19 => ⟨S4x512x1, .f32⟩
  | 20 => ⟨S256x32, .f32⟩
  | 21 => ⟨S4x512x32, .f32⟩
  | 22 => ⟨S1x1x32, .f32⟩
  | 23 => ⟨S4x512x32, .f32⟩
  | 24 => ⟨S4x512x32, .f32⟩
  | 25 => ⟨S_, .f32⟩
  | 26 => ⟨S4x512x32, .f32⟩
  | 27 => ⟨S4x512x32, .f32⟩
  | 28 => ⟨S32x1, .f32⟩
  | 29 => ⟨S4x512x1, .f32⟩
  | 30 => ⟨S1x1x1, .f32⟩
  | 31 => ⟨S4x512x1, .f32⟩
  | 32 => ⟨S4x512x1, .f32⟩
  | 33 => ⟨S4x512x1, .f32⟩
  | 34 => ⟨S4x512x1, .f32⟩
  | 35 => ⟨S_, .f32⟩
  | 36 => ⟨S4x512x1, .f32⟩
  | 37 => ⟨S4x512x1, .f32⟩
  | 38 => ⟨S_, .f32⟩
  | 39 => ⟨S4x512x1, .f32⟩
  | 40 => ⟨S4x512x1, .f32⟩
  | 41 => ⟨S_, .f32⟩
  | 42 => ⟨S4x512x1, .f32⟩
  | 43 => ⟨S4x512x1, .f32⟩
  | 44 => ⟨S_, .f32⟩
  | 45 => ⟨S4x512x1, .f32⟩
  | 46 => ⟨S4x512x1, .f32⟩
  | 47 => ⟨S4x512x1, .f32⟩
  | 48 => ⟨S4x512, .f32⟩
  | 49 => ⟨S_, .f32⟩
  | 50 => ⟨S4x512, .f32⟩
  | 51 => ⟨S4x512, .f32⟩
  | 52 => ⟨S4x512, .f32⟩
  | 53 => ⟨S_, .i32⟩
  | 54 => ⟨S_, .i32⟩
  | 55 => ⟨S_, .f32⟩
  | 56 => ⟨S4x512, .f32⟩
  | 57 => ⟨S4x512, .f32⟩
  | 58 => ⟨S_, .f32⟩
  | 59 => ⟨S4x512, .f32⟩
  | 60 => ⟨S4x512, .f32⟩
  | 61 => ⟨S4x512, .i32⟩
  | 62 => ⟨S20, .i32⟩
  | 63 => ⟨S1x1x20, .i32⟩
  | 64 => ⟨S4x512x1, .i32⟩
  | 65 => ⟨S4x512x20, .i32⟩
  | 66 => ⟨S4x512x20, .i32⟩
  | 67 => ⟨S4x512x20, .i1⟩
  | 68 => ⟨S4x512x20, .f32⟩
  | 69 => ⟨S4x512x20x256, .f32⟩
  | 70 => ⟨S4x512x20x1, .f32⟩
  | 71 => ⟨S4x512x20x256, .f32⟩
  | 72 => ⟨S4x512x20x256, .f32⟩
  | 73 => ⟨S4x512x20x256, .f32⟩
  | 74 => ⟨S4x512x20x1, .f32⟩
  | 75 => ⟨S4x512x20x256, .f32⟩
  | 76 => ⟨S4x512x20x256, .f32⟩
  | 77 => ⟨S4x512x20x256, .f32⟩
  | 78 => ⟨S4x512x20x1, .f32⟩
  | 79 => ⟨S4x512x20x256, .f32⟩
  | 80 => ⟨S4x512x20x256, .f32⟩
  | 81 => ⟨S4x512x20x8x32, .f32⟩
  | 82 => ⟨S4x512x20x8x32, .f32⟩
  | 83 => ⟨S4x512x20x8x32, .f32⟩
  | 84 => ⟨S4x8x512x512, .f32⟩
  | 85 => ⟨S_, .f32⟩
  | 86 => ⟨S4x8x512x512, .f32⟩
  | 87 => ⟨S4x8x512x512, .f32⟩
  | 88 => ⟨S_, .f32⟩
  | 89 => ⟨S4x8x512, .f32⟩
  | 90 => ⟨S_, .f32⟩
  | 91 => ⟨S4x8x512, .f32⟩
  | 92 => ⟨S4x8x512, .f32⟩
  | 93 => ⟨S4x8x512x1, .f32⟩
  | 94 => ⟨S4x8x512x512, .f32⟩
  | 95 => ⟨S4x8x512x512, .f32⟩
  | 96 => ⟨S4x8x512x512, .f32⟩
  | 97 => ⟨S_, .f32⟩
  | 98 => ⟨S4x8x512, .f32⟩
  | 99 => ⟨S4x8x512x1, .f32⟩
  | 100 => ⟨S4x8x512x512, .f32⟩
  | 101 => ⟨S4x8x512x512, .f32⟩
  | 102 => ⟨S_, .f32⟩
  | 103 => ⟨S4x512x8x32, .f32⟩
  | 104 => ⟨S_, .f32⟩
  | 105 => ⟨S4x512x8x32, .f32⟩
  | 106 => ⟨S4x512x8x32, .f32⟩
  | 107 => ⟨S4x8x512x32, .f32⟩
  | 108 => ⟨S4x8x512x32, .f32⟩
  | 109 => ⟨S4x512x8x32, .f32⟩
  | 110 => ⟨S4x512x256, .f32⟩
  | 111 => ⟨S256x256, .f32⟩
  | 112 => ⟨S4x512x256, .f32⟩
  | 113 => ⟨S1x1x256, .f32⟩
  | 114 => ⟨S4x512x256, .f32⟩
  | 115 => ⟨S4x512x256, .f32⟩
  | _ => ⟨S4x512x256, .f32⟩

abbrev hbmTy (i : Nat) : BufTy := match i / 128 with
  | 0 => hbmTy0_0 i
  | 1 => hbmTy0_1 i
  | _ => ⟨S4x512x256, .f32⟩

abbrev bufTy : (tb : Table) → Fin (tcTables nBuf tb) → BufTy
  | .hbm, ⟨i, _⟩ => hbmTy i
  | _, _ => ⟨S4x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_cst : Ref sig .tc := ⟨.hbm, 28, rfl⟩
abbrev main_v6 : Ref sig .tc := ⟨.hbm, 29, rfl⟩
abbrev main_cst_0 : Ref sig .tc := ⟨.hbm, 30, rfl⟩
abbrev main_v7 : Ref sig .tc := ⟨.hbm, 31, rfl⟩
abbrev main_cst_1 : Ref sig .tc := ⟨.hbm, 32, rfl⟩
abbrev main_v8 : Ref sig .tc := ⟨.hbm, 33, rfl⟩
abbrev main_cst_2 : Ref sig .tc := ⟨.hbm, 34, rfl⟩
abbrev main_v9 : Ref sig .tc := ⟨.hbm, 35, rfl⟩
abbrev main_cst_3 : Ref sig .tc := ⟨.hbm, 36, rfl⟩
abbrev main_v10 : Ref sig .tc := ⟨.hbm, 37, rfl⟩
abbrev main_c : Ref sig .tc := ⟨.hbm, 38, rfl⟩
abbrev main_v11_0 : Ref sig .tc := ⟨.hbm, 39, rfl⟩
abbrev main_v11_1 : Ref sig .tc := ⟨.hbm, 40, rfl⟩
abbrev main_v11_2 : Ref sig .tc := ⟨.hbm, 41, rfl⟩
abbrev main_v11_3 : Ref sig .tc := ⟨.hbm, 42, rfl⟩
abbrev main_v11_4 : Ref sig .tc := ⟨.hbm, 43, rfl⟩
abbrev main_v11_5 : Ref sig .tc := ⟨.hbm, 44, rfl⟩
abbrev main_v11_6 : Ref sig .tc := ⟨.hbm, 45, rfl⟩
abbrev main_v11_7 : Ref sig .tc := ⟨.hbm, 46, rfl⟩
abbrev main_v11_8 : Ref sig .tc := ⟨.hbm, 47, rfl⟩
abbrev main_v11_9 : Ref sig .tc := ⟨.hbm, 48, rfl⟩
abbrev main_v11_10 : Ref sig .tc := ⟨.hbm, 49, rfl⟩
abbrev main_v11_11 : Ref sig .tc := ⟨.hbm, 50, rfl⟩
abbrev main_v11_12 : Ref sig .tc := ⟨.hbm, 51, rfl⟩
abbrev main_v11_13 : Ref sig .tc := ⟨.hbm, 52, rfl⟩
abbrev main_v11_14 : Ref sig .tc := ⟨.hbm, 53, rfl⟩
abbrev main_v11_15 : Ref sig .tc := ⟨.hbm, 54, rfl⟩
abbrev main_v11_16 : Ref sig .tc := ⟨.hbm, 55, rfl⟩
abbrev main_v11_17 : Ref sig .tc := ⟨.hbm, 56, rfl⟩
abbrev main_v11_18 : Ref sig .tc := ⟨.hbm, 57, rfl⟩
abbrev main_while0c_c_37 : Ref sig .tc := ⟨.hbm, 58, rfl⟩
abbrev main_while0c_v111 : Ref sig .tc := ⟨.hbm, 59, rfl⟩
abbrev main_while0b_v111 : Ref sig .tc := ⟨.hbm, 60, rfl⟩
abbrev main_while0b_v112 : Ref sig .tc := ⟨.hbm, 61, rfl⟩
abbrev main_while0b_v113 : Ref sig .tc := ⟨.hbm, 62, rfl⟩
abbrev main_while0b_v114 : Ref sig .tc := ⟨.hbm, 63, rfl⟩
abbrev main_while0b_v115 : Ref sig .tc := ⟨.hbm, 64, rfl⟩
abbrev main_while0b_v116 : Ref sig .tc := ⟨.hbm, 65, rfl⟩
abbrev main_while0b_cst_37 : Ref sig .tc := ⟨.hbm, 66, rfl⟩
abbrev main_while0b_v117 : Ref sig .tc := ⟨.hbm, 67, rfl⟩
abbrev main_while0b_v118 : Ref sig .tc := ⟨.hbm, 68, rfl⟩
abbrev main_while0b_v119 : Ref sig .tc := ⟨.hbm, 69, rfl⟩
abbrev main_while0b_cst_38 : Ref sig .tc := ⟨.hbm, 70, rfl⟩
abbrev main_while0b_v120 : Ref sig .tc := ⟨.hbm, 71, rfl⟩
abbrev main_while0b_v121 : Ref sig .tc := ⟨.hbm, 72, rfl⟩
abbrev main_while0b_v122 : Ref sig .tc := ⟨.hbm, 73, rfl⟩
abbrev main_while0b_v123 : Ref sig .tc := ⟨.hbm, 74, rfl⟩
abbrev main_while0b_v124 : Ref sig .tc := ⟨.hbm, 75, rfl⟩
abbrev main_while0b_v125 : Ref sig .tc := ⟨.hbm, 76, rfl⟩
abbrev main_while0b_v126 : Ref sig .tc := ⟨.hbm, 77, rfl⟩
abbrev main_while0b_v127 : Ref sig .tc := ⟨.hbm, 78, rfl⟩
abbrev main_while0b_v128 : Ref sig .tc := ⟨.hbm, 79, rfl⟩
abbrev main_while0b_cst_39 : Ref sig .tc := ⟨.hbm, 80, rfl⟩
abbrev main_while0b_v129 : Ref sig .tc := ⟨.hbm, 81, rfl⟩
abbrev main_while0b_v130 : Ref sig .tc := ⟨.hbm, 82, rfl⟩
abbrev main_while0b_v131 : Ref sig .tc := ⟨.hbm, 83, rfl⟩
abbrev main_while0b_cst_40 : Ref sig .tc := ⟨.hbm, 84, rfl⟩
abbrev main_while0b_v132 : Ref sig .tc := ⟨.hbm, 85, rfl⟩
abbrev main_while0b_v133 : Ref sig .tc := ⟨.hbm, 86, rfl⟩
abbrev main_while0b_v134 : Ref sig .tc := ⟨.hbm, 87, rfl⟩
abbrev main_while0b_v135 : Ref sig .tc := ⟨.hbm, 88, rfl⟩
abbrev main_while0b_v136 : Ref sig .tc := ⟨.hbm, 89, rfl⟩
abbrev main_while0b_v137 : Ref sig .tc := ⟨.hbm, 90, rfl⟩
abbrev main_while0b_v138 : Ref sig .tc := ⟨.hbm, 91, rfl⟩
abbrev main_while0b_v139 : Ref sig .tc := ⟨.hbm, 92, rfl⟩
abbrev main_while0b_v140 : Ref sig .tc := ⟨.hbm, 93, rfl⟩
abbrev main_while0b_cst_41 : Ref sig .tc := ⟨.hbm, 94, rfl⟩
abbrev main_while0b_v141 : Ref sig .tc := ⟨.hbm, 95, rfl⟩
abbrev main_while0b_v142 : Ref sig .tc := ⟨.hbm, 96, rfl⟩
abbrev main_while0b_v143 : Ref sig .tc := ⟨.hbm, 97, rfl⟩
abbrev main_while0b_cst_42 : Ref sig .tc := ⟨.hbm, 98, rfl⟩
abbrev main_while0b_v144 : Ref sig .tc := ⟨.hbm, 99, rfl⟩
abbrev main_while0b_v145 : Ref sig .tc := ⟨.hbm, 100, rfl⟩
abbrev main_while0b_v146 : Ref sig .tc := ⟨.hbm, 101, rfl⟩
abbrev main_while0b_call0_v0 : Ref sig .tc := ⟨.hbm, 102, rfl⟩
abbrev main_while0b_call0_c : Ref sig .tc := ⟨.hbm, 103, rfl⟩
abbrev main_while0b_call0_c_0 : Ref sig .tc := ⟨.hbm, 104, rfl⟩
abbrev main_while0b_call0_c_1 : Ref sig .tc := ⟨.hbm, 105, rfl⟩
abbrev main_while0b_v147 : Ref sig .tc := ⟨.hbm, 106, rfl⟩
abbrev main_while0b_call1_v0 : Ref sig .tc := ⟨.hbm, 107, rfl⟩
abbrev main_while0b_call1_c : Ref sig .tc := ⟨.hbm, 108, rfl⟩
abbrev main_while0b_call1_c_0 : Ref sig .tc := ⟨.hbm, 109, rfl⟩
abbrev main_while0b_call1_c_1 : Ref sig .tc := ⟨.hbm, 110, rfl⟩
abbrev main_while0b_v148 : Ref sig .tc := ⟨.hbm, 111, rfl⟩
abbrev main_while0b_call2_v0 : Ref sig .tc := ⟨.hbm, 112, rfl⟩
abbrev main_while0b_call2_c : Ref sig .tc := ⟨.hbm, 113, rfl⟩
abbrev main_while0b_call2_c_0 : Ref sig .tc := ⟨.hbm, 114, rfl⟩
abbrev main_while0b_call2_c_1 : Ref sig .tc := ⟨.hbm, 115, rfl⟩
abbrev main_while0b_v149 : Ref sig .tc := ⟨.hbm, 116, rfl⟩
abbrev main_while0b_c_43 : Ref sig .tc := ⟨.hbm, 117, rfl⟩
abbrev main_while0b_v150 : Ref sig .tc := ⟨.hbm, 118, rfl⟩
abbrev main_v12 : Ref sig .tc := ⟨.hbm, 119, rfl⟩
abbrev main_v13 : Ref sig .tc := ⟨.hbm, 120, rfl⟩
abbrev main_v14 : Ref sig .tc := ⟨.hbm, 121, rfl⟩
abbrev main_v15 : Ref sig .tc := ⟨.hbm, 122, rfl⟩
abbrev main_v16 : Ref sig .tc := ⟨.hbm, 123, rfl⟩
abbrev main_call3_cst : Ref sig .tc := ⟨.hbm, 124, rfl⟩
abbrev main_call3_v0 : Ref sig .tc := ⟨.hbm, 125, rfl⟩
abbrev main_v17 : Ref sig .tc := ⟨.hbm, 126, rfl⟩
abbrev main_v18 : Ref sig .tc := ⟨.hbm, 127, rfl⟩
abbrev main_v19 : Ref sig .tc := ⟨.hbm, 128, rfl⟩
abbrev main_v20 : Ref sig .tc := ⟨.hbm, 129, rfl⟩
abbrev main_v21 : Ref sig .tc := ⟨.hbm, 130, rfl⟩
abbrev main_v22 : Ref sig .tc := ⟨.hbm, 131, rfl⟩
abbrev main_call4_cst : Ref sig .tc := ⟨.hbm, 132, rfl⟩
abbrev main_call4_v0 : Ref sig .tc := ⟨.hbm, 133, rfl⟩
abbrev main_v23 : Ref sig .tc := ⟨.hbm, 134, rfl⟩
abbrev main_v24 : Ref sig .tc := ⟨.hbm, 135, rfl⟩
abbrev main_v25 : Ref sig .tc := ⟨.hbm, 136, rfl⟩
abbrev main_v26 : Ref sig .tc := ⟨.hbm, 137, rfl⟩
abbrev main_v27 : Ref sig .tc := ⟨.hbm, 138, rfl⟩
abbrev main_v28 : Ref sig .tc := ⟨.hbm, 139, rfl⟩
abbrev main_v29 : Ref sig .tc := ⟨.hbm, 140, rfl⟩
abbrev main_v30 : Ref sig .tc := ⟨.hbm, 141, rfl⟩
abbrev main_cst_4 : Ref sig .tc := ⟨.hbm, 142, rfl⟩
abbrev main_v31 : Ref sig .tc := ⟨.hbm, 143, rfl⟩
abbrev main_v32 : Ref sig .tc := ⟨.hbm, 144, rfl⟩
abbrev main_cst_5 : Ref sig .tc := ⟨.hbm, 145, rfl⟩
abbrev main_v33 : Ref sig .tc := ⟨.hbm, 146, rfl⟩
abbrev main_v34 : Ref sig .tc := ⟨.hbm, 147, rfl⟩
abbrev main_v35 : Ref sig .tc := ⟨.hbm, 148, rfl⟩
abbrev main_v36 : Ref sig .tc := ⟨.hbm, 149, rfl⟩
abbrev main_v37 : Ref sig .tc := ⟨.hbm, 150, rfl⟩
abbrev main_v38 : Ref sig .tc := ⟨.hbm, 151, rfl⟩
abbrev main_v39 : Ref sig .tc := ⟨.hbm, 152, rfl⟩
abbrev main_call5_cst : Ref sig .tc := ⟨.hbm, 153, rfl⟩
abbrev main_call5_v0 : Ref sig .tc := ⟨.hbm, 154, rfl⟩
abbrev main_v40 : Ref sig .tc := ⟨.hbm, 155, rfl⟩
abbrev main_v41 : Ref sig .tc := ⟨.hbm, 156, rfl⟩
abbrev main_v42 : Ref sig .tc := ⟨.hbm, 157, rfl⟩
abbrev main_v43 : Ref sig .tc := ⟨.hbm, 158, rfl⟩
abbrev main_v44 : Ref sig .tc := ⟨.hbm, 159, rfl⟩
abbrev main_v45 : Ref sig .tc := ⟨.hbm, 160, rfl⟩
abbrev main_v46 : Ref sig .tc := ⟨.hbm, 161, rfl⟩
abbrev main_v47 : Ref sig .tc := ⟨.hbm, 162, rfl⟩
abbrev main_cst_6 : Ref sig .tc := ⟨.hbm, 163, rfl⟩
abbrev main_v48 : Ref sig .tc := ⟨.hbm, 164, rfl⟩
abbrev main_v49 : Ref sig .tc := ⟨.hbm, 165, rfl⟩
abbrev main_cst_7 : Ref sig .tc := ⟨.hbm, 166, rfl⟩
abbrev main_v50 : Ref sig .tc := ⟨.hbm, 167, rfl⟩
abbrev main_v51 : Ref sig .tc := ⟨.hbm, 168, rfl⟩
abbrev main_cst_8 : Ref sig .tc := ⟨.hbm, 169, rfl⟩
abbrev main_v52 : Ref sig .tc := ⟨.hbm, 170, rfl⟩
abbrev main_v53 : Ref sig .tc := ⟨.hbm, 171, rfl⟩
abbrev main_cst_9 : Ref sig .tc := ⟨.hbm, 172, rfl⟩
abbrev main_v54 : Ref sig .tc := ⟨.hbm, 173, rfl⟩
abbrev main_v55 : Ref sig .tc := ⟨.hbm, 174, rfl⟩
abbrev main_v56 : Ref sig .tc := ⟨.hbm, 175, rfl⟩
abbrev main_v57 : Ref sig .tc := ⟨.hbm, 176, rfl⟩
abbrev main_cst_10 : Ref sig .tc := ⟨.hbm, 177, rfl⟩
abbrev main_v58 : Ref sig .tc := ⟨.hbm, 178, rfl⟩
abbrev main_v59 : Ref sig .tc := ⟨.hbm, 179, rfl⟩
abbrev main_v60 : Ref sig .tc := ⟨.hbm, 180, rfl⟩
abbrev main_c_11 : Ref sig .tc := ⟨.hbm, 181, rfl⟩
abbrev main_c_12 : Ref sig .tc := ⟨.hbm, 182, rfl⟩
abbrev main_call6_v0 : Ref sig .tc := ⟨.hbm, 183, rfl⟩
abbrev main_call6_v1 : Ref sig .tc := ⟨.hbm, 184, rfl⟩
abbrev main_call6_v2 : Ref sig .tc := ⟨.hbm, 185, rfl⟩
abbrev main_call6_v3 : Ref sig .tc := ⟨.hbm, 186, rfl⟩
abbrev main_call6_v4 : Ref sig .tc := ⟨.hbm, 187, rfl⟩
abbrev main_v61 : Ref sig .tc := ⟨.hbm, 188, rfl⟩
abbrev main_v62 : Ref sig .tc := ⟨.hbm, 189, rfl⟩
abbrev main_v63 : Ref sig .tc := ⟨.hbm, 190, rfl⟩
abbrev main_v64 : Ref sig .tc := ⟨.hbm, 191, rfl⟩
abbrev main_v65 : Ref sig .tc := ⟨.hbm, 192, rfl⟩
abbrev main_v66 : Ref sig .tc := ⟨.hbm, 193, rfl⟩
abbrev main_v67 : Ref sig .tc := ⟨.hbm, 194, rfl⟩
abbrev main_v68 : Ref sig .tc := ⟨.hbm, 195, rfl⟩
abbrev main_v69 : Ref sig .tc := ⟨.hbm, 196, rfl⟩
abbrev main_v70 : Ref sig .tc := ⟨.hbm, 197, rfl⟩
abbrev main_v71 : Ref sig .tc := ⟨.hbm, 198, rfl⟩
abbrev main_v72 : Ref sig .tc := ⟨.hbm, 199, rfl⟩
abbrev main_v73 : Ref sig .tc := ⟨.hbm, 200, rfl⟩
abbrev main_v74 : Ref sig .tc := ⟨.hbm, 201, rfl⟩
abbrev main_v75 : Ref sig .tc := ⟨.hbm, 202, rfl⟩
abbrev main_v76 : Ref sig .tc := ⟨.hbm, 203, rfl⟩
abbrev main_v77 : Ref sig .tc := ⟨.hbm, 204, rfl⟩
abbrev main_v78 : Ref sig .tc := ⟨.hbm, 205, rfl⟩
abbrev main_v79 : Ref sig .tc := ⟨.hbm, 206, rfl⟩
abbrev main_v80 : Ref sig .tc := ⟨.hbm, 207, rfl⟩
abbrev main_v81 : Ref sig .tc := ⟨.hbm, 208, rfl⟩
abbrev main_v82 : Ref sig .tc := ⟨.hbm, 209, rfl⟩
abbrev main_v83 : Ref sig .tc := ⟨.hbm, 210, rfl⟩
abbrev main_v84 : Ref sig .tc := ⟨.hbm, 211, rfl⟩
abbrev main_v85 : Ref sig .tc := ⟨.hbm, 212, rfl⟩
abbrev main_cst_13 : Ref sig .tc := ⟨.hbm, 213, rfl⟩
abbrev main_v86 : Ref sig .tc := ⟨.hbm, 214, rfl⟩
abbrev main_v87 : Ref sig .tc := ⟨.hbm, 215, rfl⟩
abbrev main_cst_14 : Ref sig .tc := ⟨.hbm, 216, rfl⟩
abbrev main_v88 : Ref sig .tc := ⟨.hbm, 217, rfl⟩
abbrev main_cst_15 : Ref sig .tc := ⟨.hbm, 218, rfl⟩
abbrev main_v89 : Ref sig .tc := ⟨.hbm, 219, rfl⟩
abbrev main_v90 : Ref sig .tc := ⟨.hbm, 220, rfl⟩
abbrev main_v91 : Ref sig .tc := ⟨.hbm, 221, rfl⟩
abbrev main_v92 : Ref sig .tc := ⟨.hbm, 222, rfl⟩
abbrev main_v93 : Ref sig .tc := ⟨.hbm, 223, rfl⟩
abbrev main_v94 : Ref sig .tc := ⟨.hbm, 224, rfl⟩
abbrev main_cst_16 : Ref sig .tc := ⟨.hbm, 225, rfl⟩
abbrev main_v95 : Ref sig .tc := ⟨.hbm, 226, rfl⟩
abbrev main_v96 : Ref sig .tc := ⟨.hbm, 227, rfl⟩
abbrev main_v97 : Ref sig .tc := ⟨.hbm, 228, rfl⟩
abbrev main_v98 : Ref sig .tc := ⟨.hbm, 229, rfl⟩
abbrev main_cst_17 : Ref sig .tc := ⟨.hbm, 230, rfl⟩
abbrev main_v99 : Ref sig .tc := ⟨.hbm, 231, rfl⟩
abbrev main_cst_18 : Ref sig .tc := ⟨.hbm, 232, rfl⟩
abbrev main_v100 : Ref sig .tc := ⟨.hbm, 233, rfl⟩
abbrev main_v101 : Ref sig .tc := ⟨.hbm, 234, rfl⟩
abbrev main_v102 : Ref sig .tc := ⟨.hbm, 235, rfl⟩
abbrev main_v103 : Ref sig .tc := ⟨.hbm, 236, rfl⟩
abbrev main_v104 : Ref sig .tc := ⟨.hbm, 237, rfl⟩
abbrev main_v105 : Ref sig .tc := ⟨.hbm, 238, rfl⟩
abbrev main_v106 : Ref sig .tc := ⟨.hbm, 239, rfl⟩
abbrev main_v107 : Ref sig .tc := ⟨.hbm, 240, rfl⟩
abbrev main_v108 : Ref sig .tc := ⟨.hbm, 241, rfl⟩
abbrev main_v109 : Ref sig .tc := ⟨.hbm, 242, rfl⟩
abbrev main_v110 : Ref sig .tc := ⟨.hbm, 243, rfl⟩

abbrev nD : Nat := 1
abbrev τ : Topo := Topo.v7x

variable {F : FTy → Type} [FloatOps F]

abbrev main_while0_count : Scf.Loop 32 := ⟨0#32, 20#32, 1#32⟩
-- ==== Proof.RunParts.lean ====
/-
  The kernel's whole body, run at every float structure: on whole staging buffers it terminates, hands the inputs' blocks
  back as they were, and leaves the scratch buffers and the result's block at some contents. The text follows the
  generated certificate's run module, with the body run part by part.
-/
module

public import proofs.«01_k».proof.Proof.Gen.Kernel.Frame.Runs

@[expose] public section

-- the buffers' axes are long, and membership in a rectangle of them is decided coordinate by coordinate
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the body has 160 unrolled tile steps, so its run is long
set_option maxHeartbeats 35388000 in
/-- The body's triple: on whole staging memrefs — the inputs' at their contents,
    the FORGOTTEN outputs' (17) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg1 : Memref sig .tc .vmem S1x512x256 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S64x256 .f32) (harg7 : arg7.IsWhole) (arg8 : Memref sig .tc .vmem S1x64 .f32) (harg8 : arg8.IsWhole) (arg9 : Memref sig .tc .vmem S32x64 .f32) (harg9 : arg9.IsWhole) (arg10 : Memref sig .tc .vmem S1x32 .f32) (harg10 : arg10.IsWhole) (arg11 : Memref sig .tc .vmem S128x32 .f32) (harg11 : arg11.IsWhole) (arg12 : Memref sig .tc .vmem S1x1 .f32) (harg12 : arg12.IsWhole) (arg13 : Memref sig .tc .vmem S32x256 .f32) (harg13 : arg13.IsWhole) (arg14 : Memref sig .tc .vmem S1x32 .f32) (harg14 : arg14.IsWhole) (arg15 : Memref sig .tc .vmem S128x32 .f32) (harg15 : arg15.IsWhole) (arg16 : Memref sig .tc .vmem S1x1 .f32) (harg16 : arg16.IsWhole) (arg17 : Memref sig .tc .smem S1x6 .f32) (harg17 : arg17.IsWhole) (arg18 : Memref sig .tc .vmem S1x512x256 .f32) (harg18 : arg18.IsWhole) (arg19 : Memref sig .tc .vmem S8x512x640 .i8) (harg19 : arg19.IsWhole) (arg20 : Memref sig .tc .vmem S8x512x640 .i8) (harg20 : arg20.IsWhole) (arg21 : Memref sig .tc .vmem S512x256 .f32) (harg21 : arg21.IsWhole) (arg22 : Memref sig .tc .vmem S512x256 .f32) (harg22 : arg22.IsWhole)
    (x0 : Vec F S1x512x256 .f32) (x1 : Vec F S256x256 .f32) (x2 : Vec F S256x256 .f32) (x3 : Vec F S256x256 .f32) (x4 : Vec F S256x256 .f32) (x5 : Vec F S1x256 .f32) (x6 : Vec F S64x256 .f32) (x7 : Vec F S1x64 .f32) (x8 : Vec F S32x64 .f32) (x9 : Vec F S1x32 .f32) (x10 : Vec F S128x32 .f32) (x11 : Vec F S1x1 .f32) (x12 : Vec F S32x256 .f32) (x13 : Vec F S1x32 .f32) (x14 : Vec F S128x32 .f32) (x15 : Vec F S1x1 .f32) (x16 : Vec F S1x6 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
    intro E K
    simp only [cc0__fused_kernel_eq_skeleton]; unfold cc0__fused_kernel_skel
    simp only [k0_part510_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part511_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part512_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part513_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part514_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part515_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part516_eq_skeleton, k0_part361_eq_skeleton, k0_part362_eq_skeleton, k0_part363_eq_skeleton, k0_part364_eq_skeleton, k0_part365_eq_skeleton, k0_part366_eq_skeleton, k0_part367_eq_skeleton, k0_part368_eq_skeleton, k0_part369_eq_skeleton, k0_part370_eq_skeleton, k0_part371_eq_skeleton, k0_part372_eq_skeleton, k0_part373_eq_skeleton, k0_part374_eq_skeleton, k0_part375_eq_skeleton, k0_part376_eq_skeleton, k0_part377_eq_skeleton, k0_part378_eq_skeleton, k0_part379_eq_skeleton, k0_part380_eq_skeleton, k0_part381_eq_skeleton, k0_part382_eq_skeleton, k0_part383_eq_skeleton, k0_part384_eq_skeleton, k0_part385_eq_skeleton, k0_part386_eq_skeleton, k0_part387_eq_skeleton, k0_part388_eq_skeleton, k0_part389_eq_skeleton, k0_part390_eq_skeleton, k0_part391_eq_skeleton, k0_part392_eq_skeleton, k0_part393_eq_skeleton, k0_part394_eq_skeleton, k0_part395_eq_skeleton, k0_part396_eq_skeleton, k0_part397_eq_skeleton, k0_part398_eq_skeleton, k0_part399_eq_skeleton, k0_part400_eq_skeleton, k0_part401_eq_skeleton, k0_part402_eq_skeleton, k0_part403_eq_skeleton, k0_part404_eq_skeleton, k0_part405_eq_skeleton, k0_part406_eq_skeleton, k0_part407_eq_skeleton, k0_part408_eq_skeleton, k0_part409_eq_skeleton, k0_part410_eq_skeleton, k0_part411_eq_skeleton, k0_part412_eq_skeleton, k0_part413_eq_skeleton, k0_part414_eq_skeleton, k0_part415_eq_skeleton, k0_part416_eq_skeleton, k0_part417_eq_skeleton, k0_part418_eq_skeleton, k0_part419_eq_skeleton, k0_part420_eq_skeleton, k0_part517_eq_skeleton, k0_part421_eq_skeleton, k0_part422_eq_skeleton, k0_part423_eq_skeleton, k0_part424_eq_skeleton, k0_part425_eq_skeleton, k0_part426_eq_skeleton, k0_part427_eq_skeleton, k0_part428_eq_skeleton, k0_part429_eq_skeleton, k0_part430_eq_skeleton, k0_part431_eq_skeleton, k0_part432_eq_skeleton, k0_part433_eq_skeleton, k0_part434_eq_skeleton, k0_part435_eq_skeleton, k0_part436_eq_skeleton, k0_part437_eq_skeleton, k0_part438_eq_skeleton, k0_part439_eq_skeleton, k0_part440_eq_skeleton, k0_part441_eq_skeleton, k0_part442_eq_skeleton, k0_part443_eq_skeleton, k0_part444_eq_skeleton, k0_part445_eq_skeleton, k0_part446_eq_skeleton, k0_part447_eq_skeleton, k0_part448_eq_skeleton, k0_part449_eq_skeleton, k0_part450_eq_skeleton, k0_part451_eq_skeleton, k0_part452_eq_skeleton, k0_part453_eq_skeleton, k0_part454_eq_skeleton, k0_part455_eq_skeleton, k0_part456_eq_skeleton, k0_part457_eq_skeleton, k0_part458_eq_skeleton, k0_part459_eq_skeleton, k0_part460_eq_skeleton, k0_part461_eq_skeleton, k0_part462_eq_skeleton, k0_part463_eq_skeleton, k0_part464_eq_skeleton, k0_part465_eq_skeleton, k0_part466_eq_skeleton, k0_part467_eq_skeleton, k0_part468_eq_skeleton, k0_part469_eq_skeleton, k0_part470_eq_skeleton, k0_part471_eq_skeleton, k0_part472_eq_skeleton, k0_part473_eq_skeleton, k0_part474_eq_skeleton, k0_part475_eq_skeleton, k0_part476_eq_skeleton, k0_part477_eq_skeleton, k0_part478_eq_skeleton, k0_part479_eq_skeleton, k0_part480_eq_skeleton, k0_part518_eq_skeleton, k0_part481_eq_skeleton, k0_part482_eq_skeleton, k0_part483_eq_skeleton, k0_part484_eq_skeleton, k0_part485_eq_skeleton, k0_part486_eq_skeleton, k0_part487_eq_skeleton, k0_part488_eq_skeleton, k0_part489_eq_skeleton, k0_part490_eq_skeleton, k0_part491_eq_skeleton, k0_part492_eq_skeleton, k0_part493_eq_skeleton, k0_part494_eq_skeleton, k0_part495_eq_skeleton, k0_part496_eq_skeleton, k0_part497_eq_skeleton, k0_part498_eq_skeleton, k0_part499_eq_skeleton, k0_part500_eq_skeleton, k0_part501_eq_skeleton, k0_part502_eq_skeleton, k0_part503_eq_skeleton, k0_part504_eq_skeleton, k0_part505_eq_skeleton, k0_part506_eq_skeleton, k0_part507_eq_skeleton, k0_part508_eq_skeleton, k0_part509_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16
    sl_exec_parts
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _, _; isplitr; swap; · iexact H17
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Kernel.Gen

end
-- ==== Proof.FrameK.lean ====
/-
  The kernel's frame over the run of RunParts.lean: the proof data, the body's obligation at every point, the launch, and
  the arguments unchanged. The text follows the generated certificate's last module.
-/
module

public import proofs.«01_k».proof.Proof.RunParts
public import Idealize.ShloMosaic.Lib.Claim

@[expose] public section

-- the buffers' axes are long, and membership in a rectangle of them is decided coordinate by coordinate
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (17): nothing reads what the kernel leaves in them, so nothing
    of it is named (Lib/Pipeline/Dat.lean `Dat.toRForget`). -/
def forgets0 : Fin 18 → Bool := fun w => w.val == 17

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, h⟩ => Pipeline.Dat.unnamed (cfg := cfg0) ⟨17, h⟩ t
    | ⟨_ + 18, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ (∃ d, owns (c : Thread nD τ) (ms0_17 t) fullShare d))

set_option maxHeartbeats 2000000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16]
  rw [show (dats m 0 c).Φ t.castSucc = Pipeline.ΦA spec0 c from rfl, PhiA0_eq]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply ((kernelRun0_A c (grid0.coords t) _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [HS0]; · iexact HS0
  isplitl [HS1]; · iexact HS1
  isplitl [HS2]; · iexact HS2
  isplitl [HS3]; · iexact HS3
  iintro ⟨H0, H1, H2, H3, H4, H5, H6, H7, H8, H9, H10, H11, H12, H13, H14, H15, H16, H17, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (window 17) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

set_option maxHeartbeats 2000000 in
/-- `frame` without the counters: the argument arrays end unchanged. A staged input holds its entry contents by the run's
    first clause, an array that no window stages by its second. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun r (h : Pipeline.RDat.FramePost (cfgs 0) (fun c => (dats m 0 c).toRForget forgets0) (V m) r) c => ⟨(Pipeline.RDat.FramePost.arr_in h c 0 rfl).trans ((A_eq m c 0).trans (V_main_arg0 m c)),
      (Pipeline.RDat.FramePost.arr_in h c 1 rfl).trans ((A_eq m c 1).trans (V_main_arg1 m c)),
      (Pipeline.RDat.FramePost.arr_in h c 2 rfl).trans ((A_eq m c 2).trans (V_main_arg2 m c)),
      (Pipeline.RDat.FramePost.arr_in h c 3 rfl).trans ((A_eq m c 3).trans (V_main_arg3 m c)),
      (Pipeline.RDat.FramePost.arr_in h c 4 rfl).trans ((A_eq m c 4).trans (V_main_arg4 m c)),
      ((h c).2 main_arg5 (Pipeline.mem_restRefs_of main_arg5 (by decide) (by decide))).trans (V_main_arg5 m c),
      (Pipeline.RDat.FramePost.arr_in h c 6 rfl).trans ((A_eq m c 6).trans (V_main_arg6 m c)),
      ((h c).2 main_arg7 (Pipeline.mem_restRefs_of main_arg7 (by decide) (by decide))).trans (V_main_arg7 m c),
      (Pipeline.RDat.FramePost.arr_in h c 8 rfl).trans ((A_eq m c 8).trans (V_main_arg8 m c)),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      (Pipeline.RDat.FramePost.arr_in h c 12 rfl).trans ((A_eq m c 12).trans (V_main_arg12 m c)),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c),
      ((h c).2 main_arg21 (Pipeline.mem_restRefs_of main_arg21 (by decide) (by decide))).trans (V_main_arg21 m c)⟩) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21))
      ∧ r.2.sem = fun _ => 0) :=
  θ_run_and (unchanged m ρ) ((θ_run defs _ _).mono (fun _ h => h.2) (run_main_quiescent m ρ))

end Cert.Kernel.Gen

end
-- ==== Proof.RefRun.lean ====
/-
  The reference's run, stated over one time step of its loop: at a valuation that holds a state (the carried arrays, the
  set-up values and the step's number) every value of one trip is the step's, one lemma each, so one trip keeps holding,
  with `step` applied. What precedes the loop holds `init`, and the result is read from `step` iterated from `init`. The
  text follows the generated module of the reference's run.
-/
module

public import proofs.«01_k».proof.Proof.Gen.ReferenceIdeal.Run
public import proofs.«01_k».proof.Proof.Gen.ReferenceIdeal.Step

@[expose] public section

noncomputable section

namespace Cert.ReferenceIdeal.StepRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_10 : V0 (Proc.devRef .tc main_v11_10) = s.main_v11_10
  f_11 : V0 (Proc.devRef .tc main_v11_11) = s.main_v11_11
  f_12 : V0 (Proc.devRef .tc main_v11_12) = s.main_v11_12
  f_13 : V0 (Proc.devRef .tc main_v11_13) = s.main_v11_13
  f_14 : V0 (Proc.devRef .tc main_v11_14) = s.main_v11_14
  f_15 : V0 (Proc.devRef .tc main_v11_15) = s.main_v11_15
  f_16 : V0 (Proc.devRef .tc main_v11_16) = s.main_v11_16
  f_17 : V0 (Proc.devRef .tc main_v11_17) = s.main_v11_17
  f_18 : V0 (Proc.devRef .tc main_v11_18) = s.main_v11_18
  f_0 : V0 (Proc.devRef .tc main_v11_0) = s.main_v11_0
  f_1 : V0 (Proc.devRef .tc main_v11_1) = s.main_v11_1
  f_2 : V0 (Proc.devRef .tc main_v11_2) = s.main_v11_2
  f_3 : V0 (Proc.devRef .tc main_v11_3) = s.main_v11_3
  f_4 : V0 (Proc.devRef .tc main_v11_4) = s.main_v11_4
  f_5 : V0 (Proc.devRef .tc main_v11_5) = s.main_v11_5
  f_6 : V0 (Proc.devRef .tc main_v11_6) = s.main_v11_6
  f_7 : V0 (Proc.devRef .tc main_v11_7) = s.main_v11_7
  f_8 : V0 (Proc.devRef .tc main_v11_8) = s.main_v11_8
  n_9 : V0 (Proc.devRef .tc main_v11_9) = constantI S_ 32 (BitVec.ofNat 32 j)

variable {V0 s j}

set_option maxRecDepth 8192 in
theorem al_0 (h : Holds V0 s j) : (broadcastInDim S4x512x256 ![] bcast_S_S4x512x256 (V0 (Proc.devRef .tc main_v11_0)) : (Proc.devRef .tc main_while0b_v111 : DevRef τ sig).ty.Contents (Elt F)) = Cert.ReferenceIdeal.Step.b0 j s := by
  unfold Cert.ReferenceIdeal.Step.b0
  rw [h.f_0]
  try rfl
set_option maxRecDepth 8192 in
theorem al_1 (h : Holds V0 s j) : (mulf (broadcastInDim S4x512x256 ![] bcast_S_S4x512x256 (V0 (Proc.devRef .tc main_v11_0))) (V0 (Proc.devRef .tc main_v11_11)) : (Proc.devRef .tc main_while0b_v112 : DevRef τ sig).ty.Contents (Elt F)) = Cert.ReferenceIdeal.Step.b1 j s := by
  unfold Cert.ReferenceIdeal.Step.b1
  rw [← al_0 h, h.f_11]
  try rfl
set_option maxRecDepth 8192 in
theorem al_2 (h : Holds V0 s j) : (res_main_while0b_v113 V0 : (Proc.devRef .tc main_while0b_v113 : DevRef τ sig).ty.Contents (Elt F)) = Cert.ReferenceIdeal.Step.b2 j s := by
  unfold res_main_while0b_v113 Cert.ReferenceIdeal.Step.b2
  rw [← al_1 h, h.f_1]
  try rfl
set_option maxRecDepth 8192 in
theorem al_3 (h : Holds V0 s j) : (broadcastInDim S4x512x256 ![] bcast_S_S4x512x256 (V0 (Proc.devRef .tc main_v11_2)) : (Proc.devRef .tc main_while0b_v114 : DevRef τ sig).ty.Contents (Elt F)) = Cert.ReferenceIdeal.Step.b3 j s := by
  unfold Cert.ReferenceIdeal.Step.b3
  rw [h.f_2]
  try rfl
set_option maxRecDepth 8192 in
theorem al_4 (h : Holds V0 s j) : (mulf (broadcastInDim S4x512x256 ![] bcast_S_S4x512x256 (V0 (Proc.devRef .tc main_v11_2))) (V0 (Proc.devRef .tc main_v11_10)) : (Proc.devRef .tc main_while0b_v115 : DevRef τ sig).ty.Contents (Elt F)) = Cert.ReferenceIdeal.Step.b4 j s := by
  unfold Cert.ReferenceIdeal.Step.b4
  rw [← al_3 h, h.f_10]
  try rfl
set_option maxRecDepth 8192 in
theorem al_5 (h : Holds V0 s j) : (res_main_while0b_v116 V0 : (Proc.devRef .tc main_while0b_v116 : DevRef τ sig).ty.Contents (Elt F)) = Cert.ReferenceIdeal.Step.b5 j s := by
  unfold res_main_while0b_v116 Cert.ReferenceIdeal.Step.b5
  rw [← al_4 h, ← al_2 h]
  try rfl
set_option maxRecDepth 8192 in
theorem al_6 (h : Holds V0 s j) : (constant S_ .f32 0x3F800000#32 : (Proc.devRef .tc main_while0b_cst_37 : DevRef τ sig).ty.Contents (Elt F)) = Cert.ReferenceIdeal.Step.b6 j s := by
  unfold Cert.ReferenceIdeal.Step.b6
  rfl
set_option maxRecDepth 8192 in
theorem al_7 (h : Holds V0 s j) : (broadcastInDim S4x512x256 ![] bcast_S_S4x512x256 (constant S_ .f32 0x3F800000#32) : (Proc.devRef .tc main_while0b_v117 : DevRef τ sig).ty.Contents (Elt F)) = Cert.ReferenceIdeal.Step.b7 j s := by
  unfold Cert.ReferenceIdeal.Step.b7
  rw [← al_6 h]
  try rfl
set_option maxRecDepth 8192 in
theorem al_8 (h : Holds V0 s j) : (cmpf .oge (res_main_while0b_v116 V0) (broadcastInDim S4x512x256 ![] bcast_S_S4x512x256 (constant S_ .f32 0x3F800000#32)) : (Proc.devRef .tc main_while0b_v118 : DevRef τ sig).ty.Contents (Elt F)) = Cert.ReferenceIdeal.Step.b8 j s := by
  unfold Cert.ReferenceIdeal.Step.b8
  rw [← al_5 h, ← al_7 h]
  try rfl
set_option maxRecDepth 8192 in
theorem al_9 (h : Holds V0 s j) : (res_main_while0b_v119 V0 : (Proc.devRef .tc main_while0b_v119 : DevRef τ sig).ty.Contents (Elt F)) = Cert.ReferenceIdeal.Step.b9 j s := by
  unfold res_main_while0b_v119 Cert.ReferenceIdeal.Step.b9
  rw [← al_8 h]
  try rfl
set_option maxRecDepth 8192 in
theorem al_10 (h : Holds V0 s j) : (constant S_ .f32 0x3F800000#32 : (Proc.devRef .tc main_while0b_cst_38 : DevRef τ sig).ty.Contents (Elt F)) = Cert.ReferenceIdeal.Step.b10 j s := by
  unfold Cert.ReferenceIdeal.Step.b10
  rfl
set_option maxRecDepth 8192 in
theorem al_11 (h : Holds V0 s j) : (broadcastInDim S4x512x256 ![] bcast_S_S4x512x256 (constant S_ .f32 0x3F800000#32) : (Proc.devRef .tc main_while0b_v120 : DevRef τ sig).ty.Contents (Elt F)) = Cert.ReferenceIdeal.Step.b11 j s := by
  unfold Cert.ReferenceIdeal.Step.b11
  rw [← al_10 h]
  try rfl
set_option maxRecDepth 8192 in
theorem al_12 (h : Holds V0 s j) : (subf (broadcastInDim S4x512x256 ![] bcast_S_S4x512x256 (constant S_ .f32 0x3F800000#32)) (res_main_while0b_v119 V0) : (Proc.devRef .tc main_while0b_v121 : DevRef τ sig).ty.Contents (Elt F)) = Cert.ReferenceIdeal.Step.b12 j s := by
  unfold Cert.ReferenceIdeal.Step.b12
  rw [← al_11 h, ← al_9 h]
  try rfl
set_option maxRecDepth 8192 in
theorem al_13 (h : Holds V0 s j) : (mulf (res_main_while0b_v116 V0) (subf (broadcastInDim S4x512x256 ![] bcast_S_S4x512x256 (constant S_ .f32 0x3F800000#32)) (res_main_while0b_v119 V0)) : (Proc.devRef .tc main_while0b_v122 : DevRef τ sig).ty.Contents (Elt F)) = Cert.ReferenceIdeal.Step.b13 j s := by
  unfold Cert.ReferenceIdeal.Step.b13
  rw [← al_5 h, ← al_12 h]
  try rfl
set_option maxRecDepth 8192 in
theorem al_14 (h : Holds V0 s j) : (broadcastInDim S4x512x256 ![] bcast_S_S4x512x256 (V0 (Proc.devRef .tc main_v11_3)) : (Proc.devRef .tc main_while0b_v123 : DevRef τ sig).ty.Contents (Elt F)) = Cert.ReferenceIdeal.Step.b14 j s := by
  unfold Cert.ReferenceIdeal.Step.b14
  rw [h.f_3]
  try rfl
set_option maxRecDepth 8192 in
theorem al_15 (h : Holds V0 s j) : (mulf (broadcastInDim S4x512x256 ![] bcast_S_S4x512x256 (V0 (Proc.devRef .tc main_v11_3))) (V0 (Proc.devRef .tc main_v11_13)) : (Proc.devRef .tc main_while0b_v124 : DevRef τ sig).ty.Contents (Elt F)) = Cert.ReferenceIdeal.Step.b15 j s := by
  unfold Cert.ReferenceIdeal.Step.b15
  rw [← al_14 h, h.f_13]
  try rfl
set_option maxRecDepth 8192 in
theorem al_16 (h : Holds V0 s j) : (res_main_while0b_v125 V0 : (Proc.devRef .tc main_while0b_v125 : DevRef τ sig).ty.Contents (Elt F)) = Cert.ReferenceIdeal.Step.b16 j s := by
  unfold res_main_while0b_v125 Cert.ReferenceIdeal.Step.b16
  rw [← al_15 h, h.f_4]
  try rfl
set_option maxRecDepth 8192 in
theorem al_17 (h : Holds V0 s j) : (broadcastInDim S4x512x256 ![] bcast_S_S4x512x256 (V0 (Proc.devRef .tc main_v11_5)) : (Proc.devRef .tc main_while0b_v126 : DevRef τ sig).ty.Contents (Elt F)) = Cert.ReferenceIdeal.Step.b17 j s := by
  unfold Cert.ReferenceIdeal.Step.b17
  rw [h.f_5]
  try rfl
set_option maxRecDepth 8192 in
theorem al_18 (h : Holds V0 s j) : (mulf (broadcastInDim S4x512x256 ![] bcast_S_S4x512x256 (V0 (Proc.devRef .tc main_v11_5))) (V0 (Proc.devRef .tc main_v11_12)) : (Proc.devRef .tc main_while0b_v127 : DevRef τ sig).ty.Contents (Elt F)) = Cert.ReferenceIdeal.Step.b18 j s := by
  unfold Cert.ReferenceIdeal.Step.b18
  rw [← al_17 h, h.f_12]
  try rfl
set_option maxRecDepth 8192 in
theorem al_19 (h : Holds V0 s j) : (res_main_while0b_v128 V0 : (Proc.devRef .tc main_while0b_v128 : DevRef τ sig).ty.Contents (Elt F)) = Cert.ReferenceIdeal.Step.b19 j s := by
  unfold res_main_while0b_v128 Cert.ReferenceIdeal.Step.b19
  rw [← al_18 h, ← al_16 h]
  try rfl
set_option maxRecDepth 8192 in
theorem al_20 (h : Holds V0 s j) : (constant S_ .f32 0x3F800000#32 : (Proc.devRef .tc main_while0b_cst_39 : DevRef τ sig).ty.Contents (Elt F)) = Cert.ReferenceIdeal.Step.b20 j s := by
  unfold Cert.ReferenceIdeal.Step.b20
  rfl
set_option maxRecDepth 8192 in
theorem al_21 (h : Holds V0 s j) : (broadcastInDim S4x512x256 ![] bcast_S_S4x512x256 (constant S_ .f32 0x3F800000#32) : (Proc.devRef .tc main_while0b_v129 : DevRef τ sig).ty.Contents (Elt F)) = Cert.ReferenceIdeal.Step.b21 j s := by
  unfold Cert.ReferenceIdeal.Step.b21
  rw [← al_20 h]
  try rfl
set_option maxRecDepth 8192 in
theorem al_22 (h : Holds V0 s j) : (cmpf .oge (res_main_while0b_v128 V0) (broadcastInDim S4x512x256 ![] bcast_S_S4x512x256 (constant S_ .f32 0x3F800000#32)) : (Proc.devRef .tc main_while0b_v130 : DevRef τ sig).ty.Contents (Elt F)) = Cert.ReferenceIdeal.Step.b22 j s := by
  unfold Cert.ReferenceIdeal.Step.b22
  rw [← al_19 h, ← al_21 h]
  try rfl
set_option maxRecDepth 8192 in
theorem al_23 (h : Holds V0 s j) : (res_main_while0b_v131 V0 : (Proc.devRef .tc main_while0b_v131 : DevRef τ sig).ty.Contents (Elt F)) = Cert.ReferenceIdeal.Step.b23 j s := by
  unfold res_main_while0b_v131 Cert.ReferenceIdeal.Step.b23
  rw [← al_22 h]
  try rfl
set_option maxRecDepth 8192 in
theorem al_24 (h : Holds V0 s j) : (constant S_ .f32 0x3F800000#32 : (Proc.devRef .tc main_while0b_cst_40 : DevRef τ sig).ty.Contents (Elt F)) = Cert.ReferenceIdeal.Step.b24 j s := by
  unfold Cert.ReferenceIdeal.Step.b24
  rfl
set_option maxRecDepth 8192 in
theorem al_25 (h : Holds V0 s j) : (broadcastInDim S4x512x256 ![] bcast_S_S4x512x256 (constant S_ .f32 0x3F800000#32) : (Proc.devRef .tc main_while0b_v132 : DevRef τ sig).ty.Contents (Elt F)) = Cert.ReferenceIdeal.Step.b25 j s := by
  unfold Cert.ReferenceIdeal.Step.b25
  rw [← al_24 h]
  try rfl
set_option maxRecDepth 8192 in
theorem al_26 (h : Holds V0 s j) : (subf (broadcastInDim S4x512x256 ![] bcast_S_S4x512x256 (constant S_ .f32 0x3F800000#32)) (res_main_while0b_v131 V0) : (Proc.devRef .tc main_while0b_v133 : DevRef τ sig).ty.Contents (Elt F)) = Cert.ReferenceIdeal.Step.b26 j s := by
  unfold Cert.ReferenceIdeal.Step.b26
  rw [← al_25 h, ← al_23 h]
  try rfl
set_option maxRecDepth 8192 in
theorem al_27 (h : Holds V0 s j) : (mulf (res_main_while0b_v128 V0) (subf (broadcastInDim S4x512x256 ![] bcast_S_S4x512x256 (constant S_ .f32 0x3F800000#32)) (res_main_while0b_v131 V0)) : (Proc.devRef .tc main_while0b_v134 : DevRef τ sig).ty.Contents (Elt F)) = Cert.ReferenceIdeal.Step.b27 j s := by
  unfold Cert.ReferenceIdeal.Step.b27
  rw [← al_19 h, ← al_26 h]
  try rfl
set_option maxRecDepth 8192 in
theorem al_28 (h : Holds V0 s j) : (broadcastInDim S4x512x256 ![] bcast_S_S4x512x256 (V0 (Proc.devRef .tc main_v11_6)) : (Proc.devRef .tc main_while0b_v135 : DevRef τ sig).ty.Contents (Elt F)) = Cert.ReferenceIdeal.Step.b28 j s := by
  unfold Cert.ReferenceIdeal.Step.b28
  rw [h.f_6]
  try rfl
set_option maxRecDepth 8192 in
theorem al_29 (h : Holds V0 s j) : (mulf (broadcastInDim S4x512x256 ![] bcast_S_S4x512x256 (V0 (Proc.devRef .tc main_v11_6))) (V0 (Proc.devRef .tc main_v11_15)) : (Proc.devRef .tc main_while0b_v136 : DevRef τ sig).ty.Contents (Elt F)) = Cert.ReferenceIdeal.Step.b29 j s := by
  unfold Cert.ReferenceIdeal.Step.b29
  rw [← al_28 h, h.f_15]
  try rfl
set_option maxRecDepth 8192 in
theorem al_30 (h : Holds V0 s j) : (res_main_while0b_v137 V0 : (Proc.devRef .tc main_while0b_v137 : DevRef τ sig).ty.Contents (Elt F)) = Cert.ReferenceIdeal.Step.b30 j s := by
  unfold res_main_while0b_v137 Cert.ReferenceIdeal.Step.b30
  rw [← al_29 h, h.f_7]
  try rfl
set_option maxRecDepth 8192 in
theorem al_31 (h : Holds V0 s j) : (broadcastInDim S4x512x256 ![] bcast_S_S4x512x256 (V0 (Proc.devRef .tc main_v11_8)) : (Proc.devRef .tc main_while0b_v138 : DevRef τ sig).ty.Contents (Elt F)) = Cert.ReferenceIdeal.Step.b31 j s := by
  unfold Cert.ReferenceIdeal.Step.b31
  rw [h.f_8]
  try rfl
set_option maxRecDepth 8192 in
theorem al_32 (h : Holds V0 s j) : (mulf (broadcastInDim S4x512x256 ![] bcast_S_S4x512x256 (V0 (Proc.devRef .tc main_v11_8))) (V0 (Proc.devRef .tc main_v11_14)) : (Proc.devRef .tc main_while0b_v139 : DevRef τ sig).ty.Contents (Elt F)) = Cert.ReferenceIdeal.Step.b32 j s := by
  unfold Cert.ReferenceIdeal.Step.b32
  rw [← al_31 h, h.f_14]
  try rfl
set_option maxRecDepth 8192 in
theorem al_33 (h : Holds V0 s j) : (res_main_while0b_v140 V0 : (Proc.devRef .tc main_while0b_v140 : DevRef τ sig).ty.Contents (Elt F)) = Cert.ReferenceIdeal.Step.b33 j s := by
  unfold res_main_while0b_v140 Cert.ReferenceIdeal.Step.b33
  rw [← al_32 h, ← al_30 h]
  try rfl
set_option maxRecDepth 8192 in
theorem al_34 (h : Holds V0 s j) : (constant S_ .f32 0x3F800000#32 : (Proc.devRef .tc main_while0b_cst_41 : DevRef τ sig).ty.Contents (Elt F)) = Cert.ReferenceIdeal.Step.b34 j s := by
  unfold Cert.ReferenceIdeal.Step.b34
  rfl
set_option maxRecDepth 8192 in
theorem al_35 (h : Holds V0 s j) : (broadcastInDim S4x512x256 ![] bcast_S_S4x512x256 (constant S_ .f32 0x3F800000#32) : (Proc.devRef .tc main_while0b_v141 : DevRef τ sig).ty.Contents (Elt F)) = Cert.ReferenceIdeal.Step.b35 j s := by
  unfold Cert.ReferenceIdeal.Step.b35
  rw [← al_34 h]
  try rfl
set_option maxRecDepth 8192 in
theorem al_36 (h : Holds V0 s j) : (cmpf .oge (res_main_while0b_v140 V0) (broadcastInDim S4x512x256 ![] bcast_S_S4x512x256 (constant S_ .f32 0x3F800000#32)) : (Proc.devRef .tc main_while0b_v142 : DevRef τ sig).ty.Contents (Elt F)) = Cert.ReferenceIdeal.Step.b36 j s := by
  unfold Cert.ReferenceIdeal.Step.b36
  rw [← al_33 h, ← al_35 h]
  try rfl
set_option maxRecDepth 8192 in
theorem al_37 (h : Holds V0 s j) : (res_main_while0b_v143 V0 : (Proc.devRef .tc main_while0b_v143 : DevRef τ sig).ty.Contents (Elt F)) = Cert.ReferenceIdeal.Step.b37 j s := by
  unfold res_main_while0b_v143 Cert.ReferenceIdeal.Step.b37
  rw [← al_36 h]
  try rfl
set_option maxRecDepth 8192 in
theorem al_38 (h : Holds V0 s j) : (constant S_ .f32 0x3F800000#32 : (Proc.devRef .tc main_while0b_cst_42 : DevRef τ sig).ty.Contents (Elt F)) = Cert.ReferenceIdeal.Step.b38 j s := by
  unfold Cert.ReferenceIdeal.Step.b38
  rfl
set_option maxRecDepth 8192 in
theorem al_39 (h : Holds V0 s j) : (broadcastInDim S4x512x256 ![] bcast_S_S4x512x256 (constant S_ .f32 0x3F800000#32) : (Proc.devRef .tc main_while0b_v144 : DevRef τ sig).ty.Contents (Elt F)) = Cert.ReferenceIdeal.Step.b39 j s := by
  unfold Cert.ReferenceIdeal.Step.b39
  rw [← al_38 h]
  try rfl
set_option maxRecDepth 8192 in
theorem al_40 (h : Holds V0 s j) : (subf (broadcastInDim S4x512x256 ![] bcast_S_S4x512x256 (constant S_ .f32 0x3F800000#32)) (res_main_while0b_v143 V0) : (Proc.devRef .tc main_while0b_v145 : DevRef τ sig).ty.Contents (Elt F)) = Cert.ReferenceIdeal.Step.b40 j s := by
  unfold Cert.ReferenceIdeal.Step.b40
  rw [← al_39 h, ← al_37 h]
  try rfl
set_option maxRecDepth 8192 in
theorem al_41 (h : Holds V0 s j) : (mulf (res_main_while0b_v140 V0) (subf (broadcastInDim S4x512x256 ![] bcast_S_S4x512x256 (constant S_ .f32 0x3F800000#32)) (res_main_while0b_v143 V0)) : (Proc.devRef .tc main_while0b_v146 : DevRef τ sig).ty.Contents (Elt F)) = Cert.ReferenceIdeal.Step.b41 j s := by
  unfold Cert.ReferenceIdeal.Step.b41
  rw [← al_33 h, ← al_40 h]
  try rfl
set_option maxRecDepth 8192 in
theorem al_42 (h : Holds V0 s j) : (broadcastInDim S1x4x512x256 ![1, 2, 3] bcast_S4x512x256_S1x4x512x256_1_2_3 (res_main_while0b_v119 V0) : (Proc.devRef .tc main_while0b_call0_v0 : DevRef τ sig).ty.Contents (Elt F)) = Cert.ReferenceIdeal.Step.b42 j s := by
  unfold Cert.ReferenceIdeal.Step.b42
  rw [← al_9 h]
  try rfl
set_option maxRecDepth 8192 in
theorem al_43 (h : Holds V0 s j) : (constantI S_ 32 0#32 : (Proc.devRef .tc main_while0b_call0_c : DevRef τ sig).ty.Contents (Elt F)) = Cert.ReferenceIdeal.Step.b43 j s := by
  unfold Cert.ReferenceIdeal.Step.b43
  rfl
set_option maxRecDepth 8192 in
theorem al_44 (h : Holds V0 s j) : (constantI S_ 32 0#32 : (Proc.devRef .tc main_while0b_call0_c_0 : DevRef τ sig).ty.Contents (Elt F)) = Cert.ReferenceIdeal.Step.b44 j s := by
  unfold Cert.ReferenceIdeal.Step.b44
  rfl
set_option maxRecDepth 8192 in
theorem al_45 (h : Holds V0 s j) : (constantI S_ 32 0#32 : (Proc.devRef .tc main_while0b_call0_c_1 : DevRef τ sig).ty.Contents (Elt F)) = Cert.ReferenceIdeal.Step.b45 j s := by
  unfold Cert.ReferenceIdeal.Step.b45
  rfl
set_option maxRecDepth 8192 in
theorem al_46 (h : Holds V0 s j) : (Host.dynamicUpdateSlice (V0 (Proc.devRef .tc main_v11_16)) (broadcastInDim S1x4x512x256 ![1, 2, 3] bcast_S4x512x256_S1x4x512x256_1_2_3 (res_main_while0b_v119 V0)) (fun k => (((![V0 (Proc.devRef .tc main_v11_9), constantI S_ 32 0#32, constantI S_ 32 0#32, constantI S_ 32 0#32] : Fin 4 → (⟨S_, .i32⟩ : BufTy).Contents (Elt F))) k (Shape.Idx.first h_S_)).toInt) updateFits_S20x4x512x256_S1x4x512x256 : (Proc.devRef .tc main_while0b_v147 : DevRef τ sig).ty.Contents (Elt F)) = Cert.ReferenceIdeal.Step.b46 j s := by
  unfold Cert.ReferenceIdeal.Step.b46
  rw [← al_42 h, ← al_43 h, ← al_44 h, ← al_45 h, h.f_16, h.n_9]
  try rfl
set_option maxRecDepth 8192 in
theorem al_47 (h : Holds V0 s j) : (broadcastInDim S1x4x512x256 ![1, 2, 3] bcast_S4x512x256_S1x4x512x256_1_2_3 (res_main_while0b_v131 V0) : (Proc.devRef .tc main_while0b_call1_v0 : DevRef τ sig).ty.Contents (Elt F)) = Cert.ReferenceIdeal.Step.b47 j s := by
  unfold Cert.ReferenceIdeal.Step.b47
  rw [← al_23 h]
  try rfl
set_option maxRecDepth 8192 in
theorem al_48 (h : Holds V0 s j) : (constantI S_ 32 0#32 : (Proc.devRef .tc main_while0b_call1_c : DevRef τ sig).ty.Contents (Elt F)) = Cert.ReferenceIdeal.Step.b48 j s := by
  unfold Cert.ReferenceIdeal.Step.b48
  rfl
set_option maxRecDepth 8192 in
theorem al_49 (h : Holds V0 s j) : (constantI S_ 32 0#32 : (Proc.devRef .tc main_while0b_call1_c_0 : DevRef τ sig).ty.Contents (Elt F)) = Cert.ReferenceIdeal.Step.b49 j s := by
  unfold Cert.ReferenceIdeal.Step.b49
  rfl
set_option maxRecDepth 8192 in
theorem al_50 (h : Holds V0 s j) : (constantI S_ 32 0#32 : (Proc.devRef .tc main_while0b_call1_c_1 : DevRef τ sig).ty.Contents (Elt F)) = Cert.ReferenceIdeal.Step.b50 j s := by
  unfold Cert.ReferenceIdeal.Step.b50
  rfl
set_option maxRecDepth 8192 in
theorem al_51 (h : Holds V0 s j) : (Host.dynamicUpdateSlice (V0 (Proc.devRef .tc main_v11_17)) (broadcastInDim S1x4x512x256 ![1, 2, 3] bcast_S4x512x256_S1x4x512x256_1_2_3 (res_main_while0b_v131 V0)) (fun k => (((![V0 (Proc.devRef .tc main_v11_9), constantI S_ 32 0#32, constantI S_ 32 0#32, constantI S_ 32 0#32] : Fin 4 → (⟨S_, .i32⟩ : BufTy).Contents (Elt F))) k (Shape.Idx.first h_S_)).toInt) updateFits_S20x4x512x256_S1x4x512x256 : (Proc.devRef .tc main_while0b_v148 : DevRef τ sig).ty.Contents (Elt F)) = Cert.ReferenceIdeal.Step.b51 j s := by
  unfold Cert.ReferenceIdeal.Step.b51
  rw [← al_47 h, ← al_48 h, ← al_49 h, ← al_50 h, h.f_17, h.n_9]
  try rfl
set_option maxRecDepth 8192 in
theorem al_52 (h : Holds V0 s j) : (broadcastInDim S1x4x512x256 ![1, 2, 3] bcast_S4x512x256_S1x4x512x256_1_2_3 (res_main_while0b_v143 V0) : (Proc.devRef .tc main_while0b_call2_v0 : DevRef τ sig).ty.Contents (Elt F)) = Cert.ReferenceIdeal.Step.b52 j s := by
  unfold Cert.ReferenceIdeal.Step.b52
  rw [← al_37 h]
  try rfl
set_option maxRecDepth 8192 in
theorem al_53 (h : Holds V0 s j) : (constantI S_ 32 0#32 : (Proc.devRef .tc main_while0b_call2_c : DevRef τ sig).ty.Contents (Elt F)) = Cert.ReferenceIdeal.Step.b53 j s := by
  unfold Cert.ReferenceIdeal.Step.b53
  rfl
set_option maxRecDepth 8192 in
theorem al_54 (h : Holds V0 s j) : (constantI S_ 32 0#32 : (Proc.devRef .tc main_while0b_call2_c_0 : DevRef τ sig).ty.Contents (Elt F)) = Cert.ReferenceIdeal.Step.b54 j s := by
  unfold Cert.ReferenceIdeal.Step.b54
  rfl
set_option maxRecDepth 8192 in
theorem al_55 (h : Holds V0 s j) : (constantI S_ 32 0#32 : (Proc.devRef .tc main_while0b_call2_c_1 : DevRef τ sig).ty.Contents (Elt F)) = Cert.ReferenceIdeal.Step.b55 j s := by
  unfold Cert.ReferenceIdeal.Step.b55
  rfl
set_option maxRecDepth 8192 in
theorem al_56 (h : Holds V0 s j) : (Host.dynamicUpdateSlice (V0 (Proc.devRef .tc main_v11_18)) (broadcastInDim S1x4x512x256 ![1, 2, 3] bcast_S4x512x256_S1x4x512x256_1_2_3 (res_main_while0b_v143 V0)) (fun k => (((![V0 (Proc.devRef .tc main_v11_9), constantI S_ 32 0#32, constantI S_ 32 0#32, constantI S_ 32 0#32] : Fin 4 → (⟨S_, .i32⟩ : BufTy).Contents (Elt F))) k (Shape.Idx.first h_S_)).toInt) updateFits_S20x4x512x256_S1x4x512x256 : (Proc.devRef .tc main_while0b_v149 : DevRef τ sig).ty.Contents (Elt F)) = Cert.ReferenceIdeal.Step.b56 j s := by
  unfold Cert.ReferenceIdeal.Step.b56
  rw [← al_52 h, ← al_53 h, ← al_54 h, ← al_55 h, h.f_18, h.n_9]
  try rfl

/-! One trip's step of the carried values is `step`, field by field; a counter steps to the next number. -/

theorem step_10 (h : Holds V0 s j) : step_main_v11_10 V0 = (step j s).main_v11_10 := by
  unfold step_main_v11_10 Cert.ReferenceIdeal.Step.step
  show id (mulf (res_main_while0b_v116 V0) (subf (broadcastInDim S4x512x256 ![] bcast_S_S4x512x256 (constant S_ .f32 0x3F800000#32)) (res_main_while0b_v119 V0))) = _
  rw [al_13 h]
  try rfl
theorem step_11 (h : Holds V0 s j) : step_main_v11_11 V0 = (step j s).main_v11_11 := by
  unfold step_main_v11_11 Cert.ReferenceIdeal.Step.step
  show id (res_main_while0b_v113 V0) = _
  rw [al_2 h]
  try rfl
theorem step_12 (h : Holds V0 s j) : step_main_v11_12 V0 = (step j s).main_v11_12 := by
  unfold step_main_v11_12 Cert.ReferenceIdeal.Step.step
  show id (mulf (res_main_while0b_v128 V0) (subf (broadcastInDim S4x512x256 ![] bcast_S_S4x512x256 (constant S_ .f32 0x3F800000#32)) (res_main_while0b_v131 V0))) = _
  rw [al_27 h]
  try rfl
theorem step_13 (h : Holds V0 s j) : step_main_v11_13 V0 = (step j s).main_v11_13 := by
  unfold step_main_v11_13 Cert.ReferenceIdeal.Step.step
  show id (res_main_while0b_v125 V0) = _
  rw [al_16 h]
  try rfl
theorem step_14 (h : Holds V0 s j) : step_main_v11_14 V0 = (step j s).main_v11_14 := by
  unfold step_main_v11_14 Cert.ReferenceIdeal.Step.step
  show id (mulf (res_main_while0b_v140 V0) (subf (broadcastInDim S4x512x256 ![] bcast_S_S4x512x256 (constant S_ .f32 0x3F800000#32)) (res_main_while0b_v143 V0))) = _
  rw [al_41 h]
  try rfl
theorem step_15 (h : Holds V0 s j) : step_main_v11_15 V0 = (step j s).main_v11_15 := by
  unfold step_main_v11_15 Cert.ReferenceIdeal.Step.step
  show id (res_main_while0b_v137 V0) = _
  rw [al_30 h]
  try rfl
theorem step_16 (h : Holds V0 s j) : step_main_v11_16 V0 = (step j s).main_v11_16 := by
  unfold step_main_v11_16 Cert.ReferenceIdeal.Step.step
  show id (Host.dynamicUpdateSlice (V0 (Proc.devRef .tc main_v11_16)) (broadcastInDim S1x4x512x256 ![1, 2, 3] bcast_S4x512x256_S1x4x512x256_1_2_3 (res_main_while0b_v119 V0)) (fun k => (((![V0 (Proc.devRef .tc main_v11_9), constantI S_ 32 0#32, constantI S_ 32 0#32, constantI S_ 32 0#32] : Fin 4 → (⟨S_, .i32⟩ : BufTy).Contents (Elt F))) k (Shape.Idx.first h_S_)).toInt) updateFits_S20x4x512x256_S1x4x512x256) = _
  exact al_46 h
theorem step_17 (h : Holds V0 s j) : step_main_v11_17 V0 = (step j s).main_v11_17 := by
  unfold step_main_v11_17 Cert.ReferenceIdeal.Step.step
  show id (Host.dynamicUpdateSlice (V0 (Proc.devRef .tc main_v11_17)) (broadcastInDim S1x4x512x256 ![1, 2, 3] bcast_S4x512x256_S1x4x512x256_1_2_3 (res_main_while0b_v131 V0)) (fun k => (((![V0 (Proc.devRef .tc main_v11_9), constantI S_ 32 0#32, constantI S_ 32 0#32, constantI S_ 32 0#32] : Fin 4 → (⟨S_, .i32⟩ : BufTy).Contents (Elt F))) k (Shape.Idx.first h_S_)).toInt) updateFits_S20x4x512x256_S1x4x512x256) = _
  exact al_51 h
theorem step_18 (h : Holds V0 s j) : step_main_v11_18 V0 = (step j s).main_v11_18 := by
  unfold step_main_v11_18 Cert.ReferenceIdeal.Step.step
  show id (Host.dynamicUpdateSlice (V0 (Proc.devRef .tc main_v11_18)) (broadcastInDim S1x4x512x256 ![1, 2, 3] bcast_S4x512x256_S1x4x512x256_1_2_3 (res_main_while0b_v143 V0)) (fun k => (((![V0 (Proc.devRef .tc main_v11_9), constantI S_ 32 0#32, constantI S_ 32 0#32, constantI S_ 32 0#32] : Fin 4 → (⟨S_, .i32⟩ : BufTy).Contents (Elt F))) k (Shape.Idx.first h_S_)).toInt) updateFits_S20x4x512x256_S1x4x512x256) = _
  exact al_56 h
theorem step_9 (h : Holds V0 s j) : step_main_v11_9 V0 = constantI S_ 32 (BitVec.ofNat 32 (j + 1)) := by
  unfold step_main_v11_9
  rw [h.n_9]
  funext i
  show BitVec.ofNat 32 j + 1#32 = BitVec.ofNat 32 (j + 1)
  simp only [BitVec.ofNat_add]

set_option maxRecDepth 8192 in
theorem out_main_v110_holds (h : Holds V0 s j) {x_main_arg0 : (⟨S4x512x256, .f32⟩ : BufTy).Contents (Elt F)} (h_main_arg0 : V0 (Proc.devRef .tc main_arg0) = x_main_arg0) {x_main_arg4 : (⟨S256x256, .f32⟩ : BufTy).Contents (Elt F)} (h_main_arg4 : V0 (Proc.devRef .tc main_arg4) = x_main_arg4) {x_main_arg5 : (⟨S256, .f32⟩ : BufTy).Contents (Elt F)} (h_main_arg5 : V0 (Proc.devRef .tc main_arg5) = x_main_arg5) {x_main_arg6 : (⟨S64x256, .f32⟩ : BufTy).Contents (Elt F)} (h_main_arg6 : V0 (Proc.devRef .tc main_arg6) = x_main_arg6) {x_main_arg7 : (⟨S64, .f32⟩ : BufTy).Contents (Elt F)} (h_main_arg7 : V0 (Proc.devRef .tc main_arg7) = x_main_arg7) {x_main_arg8 : (⟨S32x64, .f32⟩ : BufTy).Contents (Elt F)} (h_main_arg8 : V0 (Proc.devRef .tc main_arg8) = x_main_arg8) {x_main_arg9 : (⟨S32, .f32⟩ : BufTy).Contents (Elt F)} (h_main_arg9 : V0 (Proc.devRef .tc main_arg9) = x_main_arg9) {x_main_arg10 : (⟨S1x32, .f32⟩ : BufTy).Contents (Elt F)} (h_main_arg10 : V0 (Proc.devRef .tc main_arg10) = x_main_arg10) {x_main_arg11 : (⟨S1, .f32⟩ : BufTy).Contents (Elt F)} (h_main_arg11 : V0 (Proc.devRef .tc main_arg11) = x_main_arg11) {x_main_arg12 : (⟨S32x256, .f32⟩ : BufTy).Contents (Elt F)} (h_main_arg12 : V0 (Proc.devRef .tc main_arg12) = x_main_arg12) {x_main_arg13 : (⟨S32, .f32⟩ : BufTy).Contents (Elt F)} (h_main_arg13 : V0 (Proc.devRef .tc main_arg13) = x_main_arg13) {x_main_arg14 : (⟨S1x32, .f32⟩ : BufTy).Contents (Elt F)} (h_main_arg14 : V0 (Proc.devRef .tc main_arg14) = x_main_arg14) {x_main_arg15 : (⟨S1, .f32⟩ : BufTy).Contents (Elt F)} (h_main_arg15 : V0 (Proc.devRef .tc main_arg15) = x_main_arg15) : out_main_v110 V0 = Cert.ReferenceIdeal.Step.R_main_v110 s x_main_arg0 x_main_arg4 x_main_arg5 x_main_arg6 x_main_arg7 x_main_arg8 x_main_arg9 x_main_arg10 x_main_arg11 x_main_arg12 x_main_arg13 x_main_arg14 x_main_arg15 := by
  unfold out_main_v110 Cert.ReferenceIdeal.Step.R_main_v110
  rw [h.f_16, h.f_17, h.f_18, h_main_arg0, h_main_arg4, h_main_arg5, h_main_arg6, h_main_arg7, h_main_arg8, h_main_arg9, h_main_arg10, h_main_arg11, h_main_arg12, h_main_arg13, h_main_arg14, h_main_arg15]
  try rfl

/-- One trip keeps the valuation holding: `step` of the state, the same set-up values, the next number. -/
theorem holds_step (h : Holds V0 s j) : Holds (STEP V0) (step j s) (j + 1) where
  f_10 := (STEP_main_v11_10 V0).trans (step_10 h)
  f_11 := (STEP_main_v11_11 V0).trans (step_11 h)
  f_12 := (STEP_main_v11_12 V0).trans (step_12 h)
  f_13 := (STEP_main_v11_13 V0).trans (step_13 h)
  f_14 := (STEP_main_v11_14 V0).trans (step_14 h)
  f_15 := (STEP_main_v11_15 V0).trans (step_15 h)
  f_16 := (STEP_main_v11_16 V0).trans (step_16 h)
  f_17 := (STEP_main_v11_17 V0).trans (step_17 h)
  f_18 := (STEP_main_v11_18 V0).trans (step_18 h)
  n_9 := (STEP_main_v11_9 V0).trans (step_9 h)
  f_0 := (STEP_main_v11_0 V0).trans h.f_0
  f_1 := (STEP_main_v11_1 V0).trans h.f_1
  f_2 := (STEP_main_v11_2 V0).trans h.f_2
  f_3 := (STEP_main_v11_3 V0).trans h.f_3
  f_4 := (STEP_main_v11_4 V0).trans h.f_4
  f_5 := (STEP_main_v11_5 V0).trans h.f_5
  f_6 := (STEP_main_v11_6 V0).trans h.f_6
  f_7 := (STEP_main_v11_7 V0).trans h.f_7
  f_8 := (STEP_main_v11_8 V0).trans h.f_8

/-- The state the first trip starts from, of the memory the run starts from. -/
abbrev initState (m : (ℓ : Loc nD τ sig) → Buf (Elt F) ℓ) (c : Dev nD) : State F :=
  init (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg0)) (m ((c.tc : Thread nD τ).loc main_arg1)) (m ((c.tc : Thread nD τ).loc main_arg2)) (m ((c.tc : Thread nD τ).loc main_arg3))

variable (m : (ℓ : Loc nD τ sig) → Buf (Elt F) ℓ) (c : Dev nD)

set_option maxRecDepth 65536 in
set_option maxHeartbeats 700000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 20 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v110) = Cert.ReferenceIdeal.Step.R_main_v110 (it c 20) (m ((c.tc : Thread nD τ).loc main_arg0)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21) :=
  (θ_run defs _ _).mono (fun _ h c =>
    have hk := holds_iter m c (it c) (h0 c) (hs c) 20
    ⟨(h c).1.trans (out_main_v110_holds hk (iter_main_arg0 m c 20) (iter_main_arg4 m c 20) (iter_main_arg5 m c 20) (iter_main_arg6 m c 20) (iter_main_arg7 m c 20) (iter_main_arg8 m c 20) (iter_main_arg9 m c 20) (iter_main_arg10 m c 20) (iter_main_arg11 m c 20) (iter_main_arg12 m c 20) (iter_main_arg13 m c 20) (iter_main_arg14 m c 20) (iter_main_arg15 m c 20)), (h c).2.1, (h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2.1, (h c).2.2.2.2.2.2.2.2.2.2.2.2.2.2.1, (h c).2.2.2.2.2.2.2.2.2.2.2.2.2.2.2.1, (h c).2.2.2.2.2.2.2.2.2.2.2.2.2.2.2.2.1, (h c).2.2.2.2.2.2.2.2.2.2.2.2.2.2.2.2.2.1, (h c).2.2.2.2.2.2.2.2.2.2.2.2.2.2.2.2.2.2.1, (h c).2.2.2.2.2.2.2.2.2.2.2.2.2.2.2.2.2.2.2.1, (h c).2.2.2.2.2.2.2.2.2.2.2.2.2.2.2.2.2.2.2.2.1, (h c).2.2.2.2.2.2.2.2.2.2.2.2.2.2.2.2.2.2.2.2.2.1, (h c).2.2.2.2.2.2.2.2.2.2.2.2.2.2.2.2.2.2.2.2.2.2⟩) (Value.run m ρ)

end Cert.ReferenceIdeal.StepRun

end
-- ==== Proof.Consts.lean ====
/-
  The float constants the kernel and the reference print, as extended reals: twenty (the number of time steps), and the
  score scale, a positive real. Zero, one and minus infinity are the library's.
-/
module

public import Idealize.ShloMosaic.PureOps.Ideal.Laws
public import Idealize.ShloMosaic.Lib.IdealHost

@[expose] public section

noncomputable section

namespace Cert.Spiking

open Idealize.ShloMosaic

/-- The pattern of `20.0` denotes twenty. -/
theorem ofBits_twenty : Ideal.ofBits .f32 0x41A00000#32 = ((20 : ℝ) : EReal) := by
  simp [Ideal.ofBits, Ideal.ieee, -EReal.coe_mul]; norm_num

/-- The pattern minus infinity denotes the bottom element. -/
theorem ofBits_ninf : Ideal.ofBits .f32 0xFF800000#32 = (⊥ : EReal) := by
  simp [Ideal.ofBits, Ideal.ieee, -EReal.coe_mul]

/-- The real the score scale's pattern denotes. -/
def scale : ℝ := (2 ^ 23 + 0x3504F3 : ℕ) * (2 : ℝ) ^ (-26 : ℤ)

/-- The score scale's pattern denotes `scale`. -/
theorem ofBits_scale : Ideal.ofBits .f32 0x3E3504F3#32 = (scale : EReal) := by
  simp [Ideal.ofBits, Ideal.ieee, scale, -EReal.coe_mul]

/-- The score scale is positive. -/
theorem scale_pos : 0 < scale := by unfold scale; positivity

/-- The pattern of the compile-time step number `t` is `t`, for each of the twenty steps the kernel compares against. -/
def stepBits : Fin 20 → BitVec 32 :=
  ![0x00000000#32, 0x3F800000#32, 0x40000000#32, 0x40400000#32, 0x40800000#32, 0x40A00000#32, 0x40C00000#32,
    0x40E00000#32, 0x41000000#32, 0x41100000#32, 0x41200000#32, 0x41300000#32, 0x41400000#32, 0x41500000#32,
    0x41600000#32, 0x41700000#32, 0x41800000#32, 0x41880000#32, 0x41900000#32, 0x41980000#32]

theorem ofBits_step (t : Fin 20) : Ideal.ofBits .f32 (stepBits t) = ((t.val : ℝ) : EReal) := by
  fin_cases t <;> simp [stepBits, Ideal.ofBits, Ideal.ieee, -EReal.coe_mul] <;> norm_num

end Cert.Spiking

end
-- ==== Proof.Math.lean ====
/-
  The mathematics both programs compute, over extended reals, one element at a time: the leaky integrate-and-fire
  recursion, the adaptive window, and the softmax average in its two arrangements.
-/
module

public import proofs.«01_k».proof.Proof.Consts

@[expose] public section

noncomputable section

namespace Cert.Spiking

open Idealize.ShloMosaic

/-- The synaptic current after `n` steps at decay `a` and constant input `x`. -/
def cur (a x : EReal) : ℕ → EReal
  | 0 => 0
  | n + 1 => a * cur a x n + x

/-- The membrane potential after `n` steps, reset to zero where it reached one. -/
def rest (a b x : EReal) : ℕ → EReal
  | 0 => 0
  | n + 1 => if 1 ≤ b * rest a b x n + cur a x (n + 1) then 0 else b * rest a b x n + cur a x (n + 1)

/-- The potential of step `n` before the reset. -/
def pot (a b x : EReal) (n : ℕ) : EReal := b * rest a b x n + cur a x (n + 1)

/-- Whether step `n` fires. -/
def fires (a b x : EReal) (n : ℕ) : Prop := 1 ≤ pot a b x n

theorem rest_succ (a b x : EReal) (n : ℕ) : rest a b x (n + 1) = if 1 ≤ pot a b x n then 0 else pot a b x n := rfl

/-- The reset written as a product with one minus the spike is the reset written as a choice: the product with zero is
    zero at the infinities too. -/
theorem mul_one_sub_spike (u : EReal) :
    u * (1 - (((BitVec.ofBool (decide ((1 : EReal) ≤ u))).toNat : ℝ) : EReal)) = if 1 ≤ u then 0 else u := by
  by_cases h : (1 : EReal) ≤ u
  · have e : (1 : EReal) - 1 = 0 := by rw [← EReal.coe_one, ← EReal.coe_sub]; simp
    simp [h, e]
  · simp [h]

/-- The inclusion of the reals keeps the larger of two. -/
theorem coe_max (x y : ℝ) : ((max x y : ℝ) : EReal) = max (x : EReal) (y : EReal) := EReal.coe_strictMono.monotone.map_max

/-- The inclusion of the reals keeps the smaller of two. -/
theorem coe_min (x y : ℝ) : ((min x y : ℝ) : EReal) = min (x : EReal) (y : EReal) := EReal.coe_strictMono.monotone.map_min

/-- The window's length of a token: an integer from one to twenty, whatever the gate's value is. -/
def window (z : EReal) : EReal := min ((20 : ℝ) : EReal) (max ((1 : ℝ) : EReal) (Ideal.liftRound Int.ceil z))

theorem window_eq (z : EReal) : ∃ n : ℕ, 1 ≤ n ∧ n ≤ 20 ∧ window z = ((n : ℝ) : EReal) := by
  unfold window
  induction z using EReal.rec with
  | bot => exact ⟨1, le_refl _, by norm_num, by
      show min ((20 : ℝ) : EReal) (max ((1 : ℝ) : EReal) ⊥) = _
      rw [max_bot_right, ← coe_min]; norm_num⟩
  | top => exact ⟨20, by norm_num, le_refl _, by
      show min ((20 : ℝ) : EReal) (max ((1 : ℝ) : EReal) ⊤) = _
      rw [max_top_right, min_top_right]; norm_num⟩
  | coe r =>
    have h : (min (20 : ℝ) (max (1 : ℝ) ((⌈r⌉ : ℤ) : ℝ))) = (((min 20 (max 1 ⌈r⌉) : ℤ)) : ℝ) := by push_cast; rfl
    have hp : 1 ≤ min 20 (max 1 ⌈r⌉) := by omega
    refine ⟨(min 20 (max 1 ⌈r⌉)).toNat, by omega, by omega, ?_⟩
    show min ((20 : ℝ) : EReal) (max ((1 : ℝ) : EReal) (((⌈r⌉ : ℤ) : ℝ) : EReal)) = _
    rw [← coe_max, ← coe_min, h]
    congr 1
    rw [← Int.cast_natCast, Int.toNat_of_nonneg (by omega)]

/-- The window's length as a word is its integer. -/
theorem fptosi_window (z : EReal) (n : ℕ) (hn : n ≤ 20) (h : window z = ((n : ℝ) : EReal)) :
    Ideal.fptosi 32 (window z) = BitVec.ofNat 32 n := by
  rw [h]
  show BitVec.ofInt 32 (max _ (min _ (if (0 : ℝ) ≤ (n : ℝ) then ⌊(n : ℝ)⌋ else ⌈(n : ℝ)⌉))) = _
  rw [if_pos (by positivity), Int.floor_natCast]
  interval_cases n <;> rfl

/-- Comparing the step's number as a float with the window's length is comparing it as an integer. -/
theorem window_cmp (z : EReal) (t : ℕ) (ht : t < 20) :
    (Ideal.cmp .ogt (window z) ((t : ℝ) : EReal) : BitVec 1)
      = BitVec.ofBool ((BitVec.ofNat 32 t).slt (Ideal.fptosi 32 (window z))) := by
  obtain ⟨n, h1, h2, h⟩ := window_eq z
  rw [fptosi_window z n h2 h, h]
  have e : decide (((t : ℝ) : EReal) < ((n : ℝ) : EReal)) = decide (t < n) := by
    simp [EReal.coe_lt_coe_iff]
  have e2 : ((BitVec.ofNat 32 t).slt (BitVec.ofNat 32 n)) = decide (t < n) := by
    have hi : ∀ k : ℕ, k ≤ 20 → (BitVec.ofNat 32 k).toInt = (k : ℤ) := fun k hk => by interval_cases k <;> rfl
    rw [BitVec.slt_eq_decide, hi t (by omega), hi n h2]
    simp
  rw [e2, ← e]
  rfl

/-- The largest of finitely many reals, as the fold both programs take, is a real. -/
theorem fold_max_coe {n : ℕ} [NeZero n] (s : Fin n → ℝ) :
    (Finset.univ : Finset (Fin n)).fold max (⊥ : EReal) (fun j => (s j : EReal))
      = ((Finset.univ.sup' ⟨0, Finset.mem_univ _⟩ s : ℝ) : EReal) := by
  show Finset.sup Finset.univ (fun j => (s j : EReal)) = _
  rw [← Finset.sup'_eq_sup ⟨0, Finset.mem_univ _⟩]
  exact (Finset.comp_sup'_eq_sup'_comp _ (fun x : ℝ => (x : EReal)) (fun x y => coe_max x y)).symm

/-- Scaling by a positive real commutes with the largest. -/
theorem sup_mul {n : ℕ} [NeZero n] (s : Fin n → ℝ) (c : ℝ) (hc : 0 < c) :
    (Finset.univ.sup' ⟨0, Finset.mem_univ _⟩ fun j => s j * c)
      = (Finset.univ.sup' ⟨(0 : Fin n), Finset.mem_univ _⟩ s) * c :=
  (Finset.comp_sup'_eq_sup'_comp _ (fun x : ℝ => x * c) (fun x y => max_mul_of_nonneg x y hc.le)).symm

/-- The sum of finitely many reals, taken over extended reals. -/
theorem sum_coe {ι : Type*} (t : Finset ι) (f : ι → ℝ) : ∑ j ∈ t, (f j : EReal) = ((∑ j ∈ t, f j : ℝ) : EReal) := by
  classical
  induction t using Finset.induction_on with
  | empty => simp
  | insert a t ha ih => rw [Finset.sum_insert ha, Finset.sum_insert ha, ih, EReal.coe_add]

/-- The softmax average in the kernel's arrangement (shift, scale, exponential, sum, one reciprocal) is the reference's
    (scale, shift, exponential, one quotient for each weight), the means taken by one twentieth and by division by twenty. -/
theorem softmax_average {n : ℕ} [NeZero n] (s v : Fin n → ℝ) (c : ℝ) (hc : 0 < c) :
    (∑ j, Ideal.exp (((s j : EReal) - Finset.univ.fold max (⊥ : EReal) (fun i => (s i : EReal))) * (c : EReal))
        * ((v j : EReal) * ((1 / 20 : ℝ) : EReal)))
      * Ideal.div 1 (∑ j, Ideal.exp (((s j : EReal) - Finset.univ.fold max (⊥ : EReal) (fun i => (s i : EReal))) * (c : EReal)) * 1)
    = ∑ j, Ideal.div (Ideal.exp ((s j : EReal) * (c : EReal) - max ⊥ (Finset.univ.fold max (⊥ : EReal) (fun i => (s i : EReal) * (c : EReal)))))
          (0 + ∑ k, Ideal.exp ((s k : EReal) * (c : EReal) - max ⊥ (Finset.univ.fold max (⊥ : EReal) (fun i => (s i : EReal) * (c : EReal)))))
        * Ideal.div (v j : EReal) ((20 : ℝ) : EReal) := by
  simp only [← EReal.coe_mul (s _) c]
  rw [fold_max_coe s, fold_max_coe (fun j => s j * c), sup_mul s c hc]
  generalize (Finset.univ.sup' ⟨(0 : Fin n), Finset.mem_univ _⟩ s) = M
  simp only [← EReal.coe_mul, ← EReal.coe_sub, bot_le, max_eq_right, Ideal.exp_coe, mul_one, zero_add, sum_coe, ← sub_mul]
  have hp : 0 < ∑ j, Real.exp ((s j - M) * c) := Finset.sum_pos (fun j _ => Real.exp_pos _) ⟨0, Finset.mem_univ _⟩
  simp only [Ideal.div_coe hp.ne', Ideal.div_coe (show (20 : ℝ) ≠ 0 by norm_num), one_mul, ← EReal.coe_mul, sum_coe]
  rw [Finset.sum_mul]
  congr 1
  refine Finset.sum_congr rfl fun j _ => ?_
  ring

end Cert.Spiking

end
-- ==== Proof.Spec.lean ====
/-
  What one batch element's result is, as a function of plain indices: the common form at which the kernel and the
  reference are both read.
-/
module

public import proofs.«01_k».proof.Proof.Math

@[expose] public section

noncomputable section

namespace Cert.Spiking

open Idealize.ShloMosaic

/-- The combined gate of a token, before it is scaled to steps. -/
def combined (g c : EReal) : EReal :=
  Ideal.ofBits .f32 0x3F333333#32 * Ideal.logistic g + Ideal.ofBits .f32 0x3E99999A#32 * Ideal.logistic c

/-- The arguments that one batch element's result reads: its tokens, the weights, the biases and the six decay constants. -/
structure Args where
  X : Fin 512 → Fin 256 → EReal
  QW : Fin 256 → Fin 256 → EReal
  KW : Fin 256 → Fin 256 → EReal
  VW : Fin 256 → Fin 256 → EReal
  OW : Fin 256 → Fin 256 → EReal
  OB : Fin 256 → EReal
  G1 : Fin 64 → Fin 256 → EReal
  g1 : Fin 64 → EReal
  G2 : Fin 32 → Fin 64 → EReal
  g2 : Fin 32 → EReal
  G3 : Fin 32 → EReal
  g3 : EReal
  C1 : Fin 32 → Fin 256 → EReal
  c1 : Fin 32 → EReal
  C2 : Fin 32 → EReal
  c2 : EReal
  aq : EReal
  bq : EReal
  ak : EReal
  bk : EReal
  av : EReal
  bv : EReal

namespace Args

variable (A : Args)

/-- The projection of a token by a weight matrix. -/
def proj (W : Fin 256 → Fin 256 → EReal) (i : Fin 512) (d : Fin 256) : EReal := ∑ e : Fin 256, A.X i e * W d e

/-- The gate of a token before its sigmoid. -/
def gate (i : Fin 512) : EReal :=
  (∑ l : Fin 32, max ((∑ k : Fin 64, max ((∑ d : Fin 256, A.X i d * A.G1 k d) + A.g1 k) 0 * A.G2 l k) + A.g2 l) 0 * A.G3 l) + A.g3

/-- The complexity of a token before its sigmoid. -/
def comp (i : Fin 512) : EReal :=
  (∑ l : Fin 32, max ((∑ d : Fin 256, A.X i d * A.C1 l d) + A.c1 l) 0 * A.C2 l) + A.c2

/-- The window's length of a token. -/
def len (i : Fin 512) : EReal := window (combined (A.gate i) (A.comp i) * ((20 : ℝ) : EReal))

/-- Whether step `t` lies inside a token's window. -/
def inside (i : Fin 512) (t : ℕ) : BitVec 1 := BitVec.ofBool ((BitVec.ofNat 32 t).slt (Ideal.fptosi 32 (A.len i)))

/-- Whether a neuron of the given decays and input fires at step `t`. -/
def fire (a b x : EReal) (t : ℕ) : BitVec 1 := BitVec.ofBool (decide ((1 : EReal) ≤ pot a b x t))

/-- A population's spike inside the window, as a number. -/
def spk (a b : EReal) (W : Fin 256 → Fin 256 → EReal) (i : Fin 512) (t : ℕ) (d : Fin 256) : ℝ :=
  ((fire a b (A.proj W i d) t).toNat : ℝ) * ((A.inside i t).toNat : ℝ)

/-- The channel of a head's lane. -/
def chan (h : Fin 8) (c : Fin 32) : Fin 256 := ⟨h.val * 32 + c.val, by omega⟩

/-- The score of a query token and a key token in a head, before scaling: the number of the steps and lanes where both fire. -/
def score (h : Fin 8) (i j : Fin 512) : ℝ :=
  ∑ t : Fin 20, ∑ c : Fin 32, A.spk A.aq A.bq A.QW i t.val (chan h c) * A.spk A.ak A.bk A.KW j t.val (chan h c)

/-- The number of a value neuron's spikes inside the window. -/
def total (j : Fin 512) (d : Fin 256) : ℝ := ∑ t : Fin 20, A.spk A.av A.bv A.VW j t.val d

/-- The context of a head: the softmax of the scaled scores over the key tokens, averaging the spikes' means. -/
def ctx (h : Fin 8) (i : Fin 512) (c : Fin 32) : EReal :=
  ∑ j : Fin 512,
    Ideal.div (Ideal.exp ((A.score h i j : EReal) * (scale : EReal)
        - max ⊥ (Finset.univ.fold max (⊥ : EReal) (fun l : Fin 512 => (A.score h i l : EReal) * (scale : EReal)))))
      (0 + ∑ k : Fin 512, Ideal.exp ((A.score h i k : EReal) * (scale : EReal)
        - max ⊥ (Finset.univ.fold max (⊥ : EReal) (fun l : Fin 512 => (A.score h i l : EReal) * (scale : EReal)))))
      * Ideal.div (A.total j (chan h c) : EReal) ((20 : ℝ) : EReal)

/-- The result: the context projected, and the bias added. -/
def out (i : Fin 512) (o : Fin 256) : EReal :=
  (∑ d : Fin 256, A.ctx ⟨d.val / 32, by omega⟩ i ⟨d.val % 32, by omega⟩ * A.OW o d) + A.OB o

end Args

end Cert.Spiking

end
-- ==== Proof.RefForms.lean ====
/-
  The reference's result named stage by stage (the window, the masked spikes, the scores, the weights, the means), and
  each stage read at one element.
-/
module

public import proofs.«01_k».proof.Proof.Gen.ReferenceIdeal.Step
public import proofs.«01_k».proof.Proof.Spec
public import Idealize.ShloMosaic.Lib.Pointwise

@[expose] public section

noncomputable section

namespace Cert.Spiking.Ref

open Idealize.ShloMosaic Idealize.ShloMosaic.StableHlo
open Cert.ReferenceIdeal Cert.ReferenceIdeal.Gen
open Cert.ReferenceIdeal.Step (State)

variable (x : FVec Ideal S4x512x256 .f32) (ow : FVec Ideal S256x256 .f32) (ob : FVec Ideal S256 .f32)
  (gw1 : FVec Ideal S64x256 .f32) (gb1 : FVec Ideal S64 .f32) (gw2 : FVec Ideal S32x64 .f32) (gb2 : FVec Ideal S32 .f32)
  (gw3 : FVec Ideal S1x32 .f32) (gb3 : FVec Ideal S1 .f32) (cw1 : FVec Ideal S32x256 .f32) (cb1 : FVec Ideal S32 .f32)
  (cw2 : FVec Ideal S1x32 .f32) (cb2 : FVec Ideal S1 .f32)

/-- The gate before its sigmoid. -/
def gatePre : FVec Ideal S4x512x1 .f32 :=
  addf (Host.dotGeneral dot_S4x512x32_S32x1_S4x512x1_2_0_01_1_n_n none
    (maximumf (addf (Host.dotGeneral dot_S4x512x64_S64x32_S4x512x32_2_0_01_1_n_n none
      (maximumf (addf (Host.dotGeneral dot_S4x512x256_S256x64_S4x512x64_2_0_01_1_n_n none x
          (transpose S256x64 [1, 0] gw1 transposes_S64x256_S256x64_1_0))
        (broadcastInDim S4x512x64 ![0, 1, 2] bcast_S1x1x64_S4x512x64_0_1_2 (broadcastInDim S1x1x64 ![2] bcast_S64_S1x1x64_2 gb1)))
        (broadcastInDim S4x512x64 ![] bcast_S_S4x512x64 (constant S_ .f32 0x00000000#32)))
        (transpose S64x32 [1, 0] gw2 transposes_S32x64_S64x32_1_0))
      (broadcastInDim S4x512x32 ![0, 1, 2] bcast_S1x1x32_S4x512x32_0_1_2 (broadcastInDim S1x1x32 ![2] bcast_S32_S1x1x32_2 gb2)))
      (broadcastInDim S4x512x32 ![] bcast_S_S4x512x32 (constant S_ .f32 0x00000000#32)))
      (transpose S32x1 [1, 0] gw3 transposes_S1x32_S32x1_1_0))
    (broadcastInDim S4x512x1 ![0, 1, 2] bcast_S1x1x1_S4x512x1_0_1_2 (broadcastInDim S1x1x1 ![2] bcast_S1_S1x1x1_2 gb3))

/-- The complexity before its sigmoid. -/
def compPre : FVec Ideal S4x512x1 .f32 :=
  addf (Host.dotGeneral dot_S4x512x32_S32x1_S4x512x1_2_0_01_1_n_n none
    (maximumf (addf (Host.dotGeneral dot_S4x512x256_S256x32_S4x512x32_2_0_01_1_n_n none x
        (transpose S256x32 [1, 0] cw1 transposes_S32x256_S256x32_1_0))
      (broadcastInDim S4x512x32 ![0, 1, 2] bcast_S1x1x32_S4x512x32_0_1_2 (broadcastInDim S1x1x32 ![2] bcast_S32_S1x1x32_2 cb1)))
      (broadcastInDim S4x512x32 ![] bcast_S_S4x512x32 (constant S_ .f32 0x00000000#32)))
      (transpose S32x1 [1, 0] cw2 transposes_S1x32_S32x1_1_0))
    (broadcastInDim S4x512x1 ![0, 1, 2] bcast_S1x1x1_S4x512x1_0_1_2 (broadcastInDim S1x1x1 ![2] bcast_S1_S1x1x1_2 cb2))

/-- The host's sigmoid of a column. -/
def sigm (g : FVec Ideal S4x512x1 .f32) : FVec Ideal S4x512x1 .f32 :=
  Host.divf (broadcastInDim S4x512x1 ![] bcast_S_S4x512x1 (constant S_ .f32 0x3F800000#32))
    (addf (broadcastInDim S4x512x1 ![] bcast_S_S4x512x1 (constant S_ .f32 0x3F800000#32)) (Host.exp (Host.negf g)))

/-- The mask's words of a gate and a complexity: the step's number below the window's length. -/
def maskOf (g c : FVec Ideal S4x512x1 .f32) : IVec S4x512x20 1 :=
  cmpi .slt
    (broadcastInDim S4x512x20 ![0, 1, 2] bcast_S1x1x20_S4x512x20_0_1_2 (broadcastInDim S1x1x20 ![2] bcast_S20_S1x1x20_2 (iotaInDim S20 32 0)))
    (broadcastInDim S4x512x20 ![0, 1, 2] bcast_S4x512x1_S4x512x20_0_1_2
      (broadcastInDim S4x512x1 ![0, 1] bcast_S4x512_S4x512x1_0_1
        (fptosi 32 (minimumf (broadcastInDim S4x512 ![] bcast_S_S4x512 (sitofp .f32 (constantI S_ 32 20#32)))
          (maximumf (broadcastInDim S4x512 ![] bcast_S_S4x512 (sitofp .f32 (constantI S_ 32 1#32)))
            (Host.ceil (mulf (shapeCast _ (addf
              (mulf (broadcastInDim S4x512x1 ![] bcast_S_S4x512x1 (constant S_ .f32 0x3F333333#32)) (sigm g))
              (mulf (broadcastInDim S4x512x1 ![] bcast_S_S4x512x1 (constant S_ .f32 0x3E99999A#32)) (sigm c)))
              shapeCasts_S4x512x1_S4x512)
              (broadcastInDim S4x512 ![] bcast_S_S4x512 (constant S_ .f32 0x41A00000#32)))))))))

/-- The spikes of one population inside the windows, by token, step, head and lane. -/
def masked (s : FVec Ideal S20x4x512x256 .f32) (w : IVec S4x512x20 1) : FVec Ideal S4x512x20x8x32 .f32 :=
  shapeCast _ (mulf (transpose S4x512x20x256 [1, 2, 0, 3] s transposes_S20x4x512x256_S4x512x20x256_1_2_0_3)
    (broadcastInDim S4x512x20x256 ![0, 1, 2, 3] bcast_S4x512x20x1_S4x512x20x256_0_1_2_3
      (broadcastInDim S4x512x20x1 ![0, 1, 2] bcast_S4x512x20_S4x512x20x1_0_1_2 (uitofp .f32 w))))
    shapeCasts_S4x512x20x256_S4x512x20x8x32

/-- The scaled scores. -/
def scores (q k : FVec Ideal S4x512x20x8x32 .f32) : FVec Ideal S4x8x512x512 .f32 :=
  mulf (Host.dotGeneral dot_S4x512x20x8x32_S4x512x20x8x32_S4x8x512x512_42_42_1_1_03_03 none q k)
    (broadcastInDim S4x8x512x512 ![] bcast_S_S4x8x512x512 (constant S_ .f32 0x3E3504F3#32))

/-- The exponentials of the scores less their row's largest. -/
def expo (s : FVec Ideal S4x8x512x512 .f32) : FVec Ideal S4x8x512x512 .f32 :=
  Host.exp (subf s (broadcastInDim S4x8x512x512 ![0, 1, 2, 3] bcast_S4x8x512x1_S4x8x512x512_0_1_2_3
    (broadcastInDim S4x8x512x1 ![0, 1, 2] bcast_S4x8x512_S4x8x512x1_0_1_2
      (maximumf (broadcastInDim S4x8x512 ![] bcast_S_S4x8x512 (constant S_ .f32 0xFF800000#32))
        (Host.reduce FloatOps.maximumf s (constant S_ .f32 0xFF800000#32) reducesTo_S4x8x512x512_S4x8x512_d3 h_S_)))))

/-- The weights: each exponential over its row's sum. -/
def weights (e : FVec Ideal S4x8x512x512 .f32) : FVec Ideal S4x8x512x512 .f32 :=
  Host.divf e (broadcastInDim S4x8x512x512 ![0, 1, 2, 3] bcast_S4x8x512x1_S4x8x512x512_0_1_2_3
    (broadcastInDim S4x8x512x1 ![0, 1, 2] bcast_S4x8x512_S4x8x512x1_0_1_2
      (Host.reduceAdd e (constant S_ .f32 0x00000000#32) reducesTo_S4x8x512x512_S4x8x512_d3 h_S_)))

/-- The mean over the steps of the value spikes. -/
def means (v : FVec Ideal S4x512x20x8x32 .f32) : FVec Ideal S4x8x512x32 .f32 :=
  transpose S4x8x512x32 [0, 2, 1, 3]
    (Host.divf (Host.reduceAdd v (constant S_ .f32 0x00000000#32) reducesTo_S4x512x20x8x32_S4x512x8x32_d2 h_S_)
      (broadcastInDim S4x512x8x32 ![] bcast_S_S4x512x8x32 (constant S_ .f32 0x41A00000#32)))
    transposes_S4x512x8x32_S4x8x512x32_0_2_1_3

/-- The context: the weighted averages of the means. -/
def context (a : FVec Ideal S4x8x512x512 .f32) (v : FVec Ideal S4x8x512x32 .f32) : FVec Ideal S4x8x512x32 .f32 :=
  Host.dotGeneral dot_S4x8x512x512_S4x8x512x32_S4x8x512x32_3_2_2_3_01_01 none a v

/-- The output projection of a context. -/
def output (c : FVec Ideal S4x8x512x32 .f32) : FVec Ideal S4x512x256 .f32 :=
  addf (Host.dotGeneral dot_S4x512x256_S256x256_S4x512x256_2_0_01_1_n_n none
    (shapeCast _ (transpose S4x512x8x32 [0, 2, 1, 3] c transposes_S4x8x512x32_S4x512x8x32_0_2_1_3) shapeCasts_S4x512x8x32_S4x512x256)
    (transpose S256x256 [1, 0] ow transposes_S256x256_S256x256_1_0))
    (broadcastInDim S4x512x256 ![0, 1, 2] bcast_S1x1x256_S4x512x256_0_1_2 (broadcastInDim S1x1x256 ![2] bcast_S256_S1x1x256_2 ob))

/-- The reference's result of the final state is the stages composed. -/
theorem result_eq (s : State Ideal) :
    Step.R_main_v110 s x ow ob gw1 gb1 gw2 gb2 gw3 gb3 cw1 cb1 cw2 cb2
      = output ow ob (context
          (weights (expo (scores
            (masked s.main_v11_16 (maskOf (gatePre x gw1 gb1 gw2 gb2 gw3 gb3) (compPre x cw1 cb1 cw2 cb2)))
            (masked s.main_v11_17 (maskOf (gatePre x gw1 gb1 gw2 gb2 gw3 gb3) (compPre x cw1 cb1 cw2 cb2))))))
          (means (masked s.main_v11_18 (maskOf (gatePre x gw1 gb1 gw2 gb2 gw3 gb3) (compPre x cw1 cb1 cw2 cb2))))) := rfl

theorem gatePre_apply (b : Fin 4) (i : Fin 512) :
    gatePre x gw1 gb1 gw2 gb2 gw3 gb3 (ix3 b i 0)
      = (∑ l : Fin 32, max ((∑ k : Fin 64, max ((∑ d : Fin 256, x (ix3 b i d) * gw1 (ix2 k d)) + gb1 (ix1 k)) 0 * gw2 (ix2 l k)) + gb2 (ix1 l)) 0
          * gw3 (ix2 0 l)) + gb3 (ix1 0) := by
  unfold gatePre
  pointwise

theorem compPre_apply (b : Fin 4) (i : Fin 512) :
    compPre x cw1 cb1 cw2 cb2 (ix3 b i 0)
      = (∑ l : Fin 32, max ((∑ d : Fin 256, x (ix3 b i d) * cw1 (ix2 l d)) + cb1 (ix1 l)) 0 * cw2 (ix2 0 l)) + cb2 (ix1 0) := by
  unfold compPre
  pointwise

theorem sigm_apply (g : FVec Ideal S4x512x1 .f32) (b : Fin 4) (i : Fin 512) :
    sigm g (ix3 b i 0) = Ideal.logistic (g (ix3 b i 0)) := by
  unfold sigm Ideal.logistic
  pointwise

theorem maskOf_apply (g c : FVec Ideal S4x512x1 .f32) (b : Fin 4) (i : Fin 512) (t : Fin 20) :
    maskOf g c (ix3 b i t)
      = BitVec.ofBool ((BitVec.ofNat 32 t.val).slt
          (Ideal.fptosi 32 (window (combined (g (ix3 b i 0)) (c (ix3 b i 0)) * ((20 : ℝ) : EReal))))) := by
  unfold maskOf window combined
  pointwise [sigm_apply, ofBits_twenty]
  have h20 : (FloatOps.sitofp .f32 20#32 : Ideal .f32) = ((20 : ℝ) : EReal) := by
    show (((20#32 : BitVec 32).toInt : ℝ) : EReal) = _
    rw [show (20#32 : BitVec 32).toInt = 20 from rfl]; norm_num
  have h1 : (FloatOps.sitofp .f32 1#32 : Ideal .f32) = ((1 : ℝ) : EReal) := by
    show (((1#32 : BitVec 32).toInt : ℝ) : EReal) = _
    rw [show (1#32 : BitVec 32).toInt = 1 from rfl]; norm_num
  rw [h20, h1]
  rfl

theorem masked_apply (s : FVec Ideal S20x4x512x256 .f32) (w : IVec S4x512x20 1) (b : Fin 4) (i : Fin 512) (t : Fin 20)
    (h : Fin 8) (c : Fin 32) :
    masked s w (ix5 b i t h c)
      = s (ix4 t b i ⟨h.val * 32 + c.val, by omega⟩) * (((w (ix3 b i t)).toNat : ℝ) : EReal) := by
  unfold masked
  pointwise
  rfl

theorem scores_apply (q k : FVec Ideal S4x512x20x8x32 .f32) (b : Fin 4) (h : Fin 8) (i j : Fin 512) :
    scores q k (ix4 b h i j)
      = (∑ t : Fin 20, ∑ c : Fin 32, q (ix5 b i t h c) * k (ix5 b j t h c)) * (scale : EReal) := by
  unfold scores
  pointwise [ofBits_scale]
  rw [Finset.sum_comm]

/-- The largest of a row, as the host's reduction over the last axis takes it. -/
theorem rowMax_apply (s : FVec Ideal S4x8x512x512 .f32) (b : Fin 4) (h : Fin 8) (i : Fin 512) :
    Host.reduce FloatOps.maximumf s (constant S_ .f32 0xFF800000#32) reducesTo_S4x8x512x512_S4x8x512_d3 h_S_ (ix3 b h i)
      = (Finset.univ.fold max (⊥ : EReal) (fun l : Fin 512 => s (ix4 b h i l))) := by
  have hr : S4x8x512x512.Reduces [3] S4x8x512 := by decide
  refine (Host.reduce_eq_fold_single (FloatOps.maximumf (F := Ideal) (φ := .f32)) s (constant S_ .f32 0xFF800000#32)
    reducesTo_S4x8x512x512_S4x8x512_d3 hr h_S_ (ix3 b h i)).trans ?_
  have e : (s ∘ hr.lift (ix3 b h i)) = fun l : Fin 512 => s (ix4 b h i l) := by
    funext l
    refine congrArg s ?_
    funext a
    fin_cases a <;> rfl
  rw [e]
  show Finset.univ.fold max (Ideal.ofBits .f32 0xFF800000#32) _ = _
  rw [ofBits_ninf]
  rfl

/-- The exponentials' stage, from any row maxima. -/
theorem expo_of (s : FVec Ideal S4x8x512x512 .f32) (m : FVec Ideal S4x8x512 .f32) (b : Fin 4) (h : Fin 8) (i j : Fin 512) :
    Host.exp (subf s (broadcastInDim S4x8x512x512 ![0, 1, 2, 3] bcast_S4x8x512x1_S4x8x512x512_0_1_2_3
      (broadcastInDim S4x8x512x1 ![0, 1, 2] bcast_S4x8x512_S4x8x512x1_0_1_2
        (maximumf (broadcastInDim S4x8x512 ![] bcast_S_S4x8x512 (constant S_ .f32 0xFF800000#32)) m)))) (ix4 b h i j)
      = Ideal.exp (s (ix4 b h i j) - max ⊥ (m (ix3 b h i))) := by
  pointwise [ofBits_ninf]

theorem expo_apply (s : FVec Ideal S4x8x512x512 .f32) (b : Fin 4) (h : Fin 8) (i j : Fin 512) :
    expo s (ix4 b h i j)
      = Ideal.exp (s (ix4 b h i j) - max ⊥ (Finset.univ.fold max (⊥ : EReal) (fun l : Fin 512 => s (ix4 b h i l)))) := by
  rw [← rowMax_apply]
  exact expo_of s _ b h i j

theorem weights_apply (e : FVec Ideal S4x8x512x512 .f32) (b : Fin 4) (h : Fin 8) (i j : Fin 512) :
    weights e (ix4 b h i j) = Ideal.div (e (ix4 b h i j)) (0 + ∑ l : Fin 512, e (ix4 b h i l)) := by
  unfold weights
  pointwise

theorem means_apply (v : FVec Ideal S4x512x20x8x32 .f32) (b : Fin 4) (h : Fin 8) (i : Fin 512) (c : Fin 32) :
    means v (ix4 b h i c) = Ideal.div (∑ t : Fin 20, v (ix5 b i t h c)) ((20 : ℝ) : EReal) := by
  unfold means
  pointwise [ofBits_twenty]

theorem context_apply (a : FVec Ideal S4x8x512x512 .f32) (v : FVec Ideal S4x8x512x32 .f32) (b : Fin 4) (h : Fin 8)
    (i : Fin 512) (c : Fin 32) :
    context a v (ix4 b h i c) = ∑ j : Fin 512, a (ix4 b h i j) * v (ix4 b h j c) := by
  unfold context
  pointwise

theorem output_apply (c : FVec Ideal S4x8x512x32 .f32) (b : Fin 4) (i : Fin 512) (o : Fin 256) :
    output ow ob c (ix3 b i o)
      = (∑ d : Fin 256, c (ix4 b ⟨d.val / 32, by omega⟩ i ⟨d.val % 32, by omega⟩) * ow (ix2 o d)) + ob (ix1 o) := by
  unfold output
  pointwise

end Cert.Spiking.Ref

end
-- ==== Proof.RefIter.lean ====
/-
  The reference's scan read at one element: after `n` steps the currents and the membranes are the scalar recursions of
  Math.lean, and every row of the spikes below `n` holds whether that step fired.
-/
module

public import proofs.«01_k».proof.Proof.RefForms

@[expose] public section

noncomputable section

namespace Cert.Spiking.Ref

open Idealize.ShloMosaic Idealize.ShloMosaic.StableHlo
open Cert.ReferenceIdeal Cert.ReferenceIdeal.Gen
open Cert.ReferenceIdeal.Step (State step init)

/-- The number a spike counts as. -/
def spike (a b x : EReal) (n : ℕ) : EReal := (((BitVec.ofBool (decide ((1 : EReal) ≤ pot a b x n))).toNat : ℝ) : EReal)

/-- The next currents of one population. -/
def nextCur (α : FVec Ideal S_ .f32) (x i : FVec Ideal S4x512x256 .f32) : FVec Ideal S4x512x256 .f32 :=
  addf (mulf (broadcastInDim S4x512x256 ![] bcast_S_S4x512x256 α) i) x

/-- The membranes of one population before the reset, from the rested ones and the new currents. -/
def before (β : FVec Ideal S_ .f32) (v i : FVec Ideal S4x512x256 .f32) : FVec Ideal S4x512x256 .f32 :=
  addf (mulf (broadcastInDim S4x512x256 ![] bcast_S_S4x512x256 β) v) i

/-- The spikes of membranes. -/
def spikes (u : FVec Ideal S4x512x256 .f32) : FVec Ideal S4x512x256 .f32 :=
  uitofp .f32 (cmpf .oge u (broadcastInDim S4x512x256 ![] bcast_S_S4x512x256 (constant S_ .f32 0x3F800000#32)))

/-- The membranes after the reset. -/
def reset (u : FVec Ideal S4x512x256 .f32) : FVec Ideal S4x512x256 .f32 :=
  mulf u (subf (broadcastInDim S4x512x256 ![] bcast_S_S4x512x256 (constant S_ .f32 0x3F800000#32)) (spikes u))

/-- The record of spikes with step `j`'s written into it. -/
def record (s : FVec Ideal S20x4x512x256 .f32) (z : FVec Ideal S4x512x256 .f32) (j : ℕ) : FVec Ideal S20x4x512x256 .f32 :=
  Host.dynamicUpdateSlice s (broadcastInDim S1x4x512x256 ![1, 2, 3] bcast_S4x512x256_S1x4x512x256_1_2_3 z)
    (fun k => ((![constantI S_ 32 (BitVec.ofNat 32 j), constantI S_ 32 0#32, constantI S_ 32 0#32, constantI S_ 32 0#32] :
      Fin 4 → (⟨S_, .i32⟩ : BufTy).Contents (Elt Ideal)) k (Shape.Idx.first h_S_)).toInt) updateFits_S20x4x512x256_S1x4x512x256

theorem nextCur_apply (α : FVec Ideal S_ .f32) (x i : FVec Ideal S4x512x256 .f32) (b : Fin 4) (r : Fin 512) (d : Fin 256) :
    nextCur α x i (ix3 b r d) = α ix0 * i (ix3 b r d) + x (ix3 b r d) := by
  unfold nextCur
  pointwise

theorem before_apply (β : FVec Ideal S_ .f32) (v i : FVec Ideal S4x512x256 .f32) (b : Fin 4) (r : Fin 512) (d : Fin 256) :
    before β v i (ix3 b r d) = β ix0 * v (ix3 b r d) + i (ix3 b r d) := by
  unfold before
  pointwise

theorem spikes_apply (u : FVec Ideal S4x512x256 .f32) (b : Fin 4) (r : Fin 512) (d : Fin 256) :
    spikes u (ix3 b r d) = (((BitVec.ofBool (decide ((1 : EReal) ≤ u (ix3 b r d)))).toNat : ℝ) : EReal) := by
  unfold spikes
  pointwise
  rfl

theorem reset_apply (u : FVec Ideal S4x512x256 .f32) (b : Fin 4) (r : Fin 512) (d : Fin 256) :
    reset u (ix3 b r d) = if 1 ≤ u (ix3 b r d) then 0 else u (ix3 b r d) := by
  rw [← mul_one_sub_spike, ← spikes_apply]
  unfold reset
  pointwise

theorem record_apply (s : FVec Ideal S20x4x512x256 .f32) (z : FVec Ideal S4x512x256 .f32) (j : ℕ) (hj : j < 20)
    (t : Fin 20) (b : Fin 4) (r : Fin 512) (d : Fin 256) :
    record s z j (ix4 t b r d) = if t.val = j then z (ix3 b r d) else s (ix4 t b r d) := by
  have e : (BitVec.ofNat 32 j).toInt = (j : ℤ) := by
    interval_cases j <;> rfl
  unfold record
  rw [Host.dynamicUpdateSlice_apply]
  generalize hst : (fun k : Fin 4 => ((![constantI S_ 32 (BitVec.ofNat 32 j), constantI S_ 32 0#32, constantI S_ 32 0#32,
    constantI S_ 32 0#32] : Fin 4 → (⟨S_, .i32⟩ : BufTy).Contents (Elt Ideal)) k (Shape.Idx.first h_S_)).toInt) = st
  have c0 : Host.clampedStart S20x4x512x256 S1x4x512x256 rfl st 0 = j := by
    subst hst
    show (min (max (BitVec.ofNat 32 j).toInt 0) ((20 - 1 : ℕ) : ℤ)).toNat = j
    rw [e]; omega
  have c1 : Host.clampedStart S20x4x512x256 S1x4x512x256 rfl st 1 = 0 := by subst hst; rfl
  have c2 : Host.clampedStart S20x4x512x256 S1x4x512x256 rfl st 2 = 0 := by subst hst; rfl
  have c3 : Host.clampedStart S20x4x512x256 S1x4x512x256 rfl st 3 = 0 := by subst hst; rfl
  by_cases h : t.val = j
  · rw [if_pos h, dif_pos (by
      intro a
      fin_cases a
      · show Host.clampedStart S20x4x512x256 S1x4x512x256 rfl st 0 ≤ t.val ∧ t.val < Host.clampedStart S20x4x512x256 S1x4x512x256 rfl st 0 + 1
        omega
      · show Host.clampedStart S20x4x512x256 S1x4x512x256 rfl st 1 ≤ b.val ∧ b.val < Host.clampedStart S20x4x512x256 S1x4x512x256 rfl st 1 + 4
        omega
      · show Host.clampedStart S20x4x512x256 S1x4x512x256 rfl st 2 ≤ r.val ∧ r.val < Host.clampedStart S20x4x512x256 S1x4x512x256 rfl st 2 + 512
        omega
      · show Host.clampedStart S20x4x512x256 S1x4x512x256 rfl st 3 ≤ d.val ∧ d.val < Host.clampedStart S20x4x512x256 S1x4x512x256 rfl st 3 + 256
        omega)]
    refine congrArg z ?_
    funext a
    refine Fin.ext ?_
    fin_cases a
    · show b.val - Host.clampedStart S20x4x512x256 S1x4x512x256 rfl st 1 = b.val
      omega
    · show r.val - Host.clampedStart S20x4x512x256 S1x4x512x256 rfl st 2 = r.val
      omega
    · show d.val - Host.clampedStart S20x4x512x256 S1x4x512x256 rfl st 3 = d.val
      omega
  · rw [if_neg h, dif_neg]
    intro hin
    have h0 : Host.clampedStart S20x4x512x256 S1x4x512x256 rfl st 0 ≤ t.val ∧ t.val < Host.clampedStart S20x4x512x256 S1x4x512x256 rfl st 0 + 1 := hin 0
    omega

/-- A population's scan: sequences of membranes, currents and records that start at zero and go on by the step. -/
structure Scan (α β : FVec Ideal S_ .f32) (x : FVec Ideal S4x512x256 .f32) (v i : ℕ → FVec Ideal S4x512x256 .f32)
    (s : ℕ → FVec Ideal S20x4x512x256 .f32) : Prop where
  v0 : ∀ y, v 0 y = 0
  i0 : ∀ y, i 0 y = 0
  iS : ∀ n, i (n + 1) = nextCur α x (i n)
  vS : ∀ n, v (n + 1) = reset (before β (v n) (nextCur α x (i n)))
  sS : ∀ n, s (n + 1) = record (s n) (spikes (before β (v n) (nextCur α x (i n)))) n

section Scan

variable {α β : FVec Ideal S_ .f32} {x : FVec Ideal S4x512x256 .f32} {v i : ℕ → FVec Ideal S4x512x256 .f32}
  {s : ℕ → FVec Ideal S20x4x512x256 .f32}

/-- The currents after `n` steps. -/
theorem Scan.cur_eq (h : Scan α β x v i s) (b : Fin 4) (r : Fin 512) (d : Fin 256) :
    ∀ n, i n (ix3 b r d) = cur (α ix0) (x (ix3 b r d)) n
  | 0 => h.i0 _
  | n + 1 => by
    rw [h.iS, nextCur_apply, h.cur_eq b r d n]
    rfl

/-- The membranes after `n` steps. -/
theorem Scan.rest_eq (h : Scan α β x v i s) (b : Fin 4) (r : Fin 512) (d : Fin 256) :
    ∀ n, v n (ix3 b r d) = rest (α ix0) (β ix0) (x (ix3 b r d)) n
  | 0 => h.v0 _
  | n + 1 => by
    rw [h.vS, reset_apply, before_apply, h.rest_eq b r d n, nextCur_apply, h.cur_eq]
    rfl

/-- The membranes before step `n`'s reset. -/
theorem Scan.pot_eq (h : Scan α β x v i s) (b : Fin 4) (r : Fin 512) (d : Fin 256) (n : ℕ) :
    before β (v n) (nextCur α x (i n)) (ix3 b r d) = pot (α ix0) (β ix0) (x (ix3 b r d)) n := by
  rw [before_apply, h.rest_eq, nextCur_apply, h.cur_eq]
  rfl

/-- The record after `n` steps, at the steps that were made. -/
theorem Scan.spike_eq (h : Scan α β x v i s) (b : Fin 4) (r : Fin 512) (d : Fin 256) (t : Fin 20) :
    ∀ n, n ≤ 20 → t.val < n → s n (ix4 t b r d) = spike (α ix0) (β ix0) (x (ix3 b r d)) t.val
  | 0, _, ht => absurd ht (Nat.not_lt_zero _)
  | n + 1, hn, ht => by
    rw [h.sS, record_apply _ _ _ (by omega)]
    by_cases e : t.val = n
    · rw [if_pos e, spikes_apply, h.pot_eq, e]
      rfl
    · rw [if_neg e]
      exact h.spike_eq b r d t n (by omega) (by omega)

end Scan

/-- The reference's states: the one before the scan, then step by step. -/
def refIter (s0 : State Ideal) : ℕ → State Ideal
  | 0 => s0
  | n + 1 => step n (refIter s0 n)

section States

variable (aq bq ak bk av bv : FVec Ideal S_ .f32) (x : FVec Ideal S4x512x256 .f32) (qw kw vw : FVec Ideal S256x256 .f32)

/-- The state before the scan. -/
abbrev start : State Ideal := init aq bq ak bk av bv x qw kw vw

/-- The constants of the scan are the same in every state. -/
theorem consts (n : ℕ) : (refIter (start aq bq ak bk av bv x qw kw vw) n).main_v11_0 = aq
    ∧ (refIter (start aq bq ak bk av bv x qw kw vw) n).main_v11_1 = Step.A_main_v1 x qw kw vw
    ∧ (refIter (start aq bq ak bk av bv x qw kw vw) n).main_v11_2 = bq
    ∧ (refIter (start aq bq ak bk av bv x qw kw vw) n).main_v11_3 = ak
    ∧ (refIter (start aq bq ak bk av bv x qw kw vw) n).main_v11_4 = Step.A_main_v3 x qw kw vw
    ∧ (refIter (start aq bq ak bk av bv x qw kw vw) n).main_v11_5 = bk
    ∧ (refIter (start aq bq ak bk av bv x qw kw vw) n).main_v11_6 = av
    ∧ (refIter (start aq bq ak bk av bv x qw kw vw) n).main_v11_7 = Step.A_main_v5 x qw kw vw
    ∧ (refIter (start aq bq ak bk av bv x qw kw vw) n).main_v11_8 = bv := by
  induction n with
  | zero => exact ⟨rfl, rfl, rfl, rfl, rfl, rfl, rfl, rfl, rfl⟩
  | succ n ih => exact ih

/-- A zero broadcast is zero everywhere. -/
theorem zeros_apply (y : S4x512x256.Idx) : broadcastInDim S4x512x256 ![] bcast_S_S4x512x256 (constant (F := Ideal) S_ .f32 0x00000000#32) y = 0 := by
  show Ideal.ofBits .f32 0x00000000#32 = 0
  exact Ideal.ofBits_zero_f32

/-- The queries' scan. -/
theorem scan_q : Scan aq bq (Step.A_main_v1 (F := Ideal) x qw kw vw)
    (fun n => (refIter (start aq bq ak bk av bv x qw kw vw) n).main_v11_10)
    (fun n => (refIter (start aq bq ak bk av bv x qw kw vw) n).main_v11_11)
    (fun n => (refIter (start aq bq ak bk av bv x qw kw vw) n).main_v11_16) where
  v0 y := zeros_apply y
  i0 y := zeros_apply y
  iS n := by
    obtain ⟨h0, h1, h2, -⟩ := consts aq bq ak bk av bv x qw kw vw n
    show nextCur (refIter _ n).main_v11_0 (refIter _ n).main_v11_1 _ = _
    rw [h0, h1]
  vS n := by
    obtain ⟨h0, h1, h2, -⟩ := consts aq bq ak bk av bv x qw kw vw n
    show reset (before (refIter _ n).main_v11_2 _ (nextCur (refIter _ n).main_v11_0 (refIter _ n).main_v11_1 _)) = _
    rw [h0, h1, h2]
  sS n := by
    obtain ⟨h0, h1, h2, -⟩ := consts aq bq ak bk av bv x qw kw vw n
    show record _ (spikes (before (refIter _ n).main_v11_2 _ (nextCur (refIter _ n).main_v11_0 (refIter _ n).main_v11_1 _))) n = _
    rw [h0, h1, h2]

/-- The keys' scan. -/
theorem scan_k : Scan ak bk (Step.A_main_v3 (F := Ideal) x qw kw vw)
    (fun n => (refIter (start aq bq ak bk av bv x qw kw vw) n).main_v11_12)
    (fun n => (refIter (start aq bq ak bk av bv x qw kw vw) n).main_v11_13)
    (fun n => (refIter (start aq bq ak bk av bv x qw kw vw) n).main_v11_17) where
  v0 y := zeros_apply y
  i0 y := zeros_apply y
  iS n := by
    obtain ⟨-, -, -, h0, h1, h2, -⟩ := consts aq bq ak bk av bv x qw kw vw n
    show nextCur (refIter _ n).main_v11_3 (refIter _ n).main_v11_4 _ = _
    rw [h0, h1]
  vS n := by
    obtain ⟨-, -, -, h0, h1, h2, -⟩ := consts aq bq ak bk av bv x qw kw vw n
    show reset (before (refIter _ n).main_v11_5 _ (nextCur (refIter _ n).main_v11_3 (refIter _ n).main_v11_4 _)) = _
    rw [h0, h1, h2]
  sS n := by
    obtain ⟨-, -, -, h0, h1, h2, -⟩ := consts aq bq ak bk av bv x qw kw vw n
    show record _ (spikes (before (refIter _ n).main_v11_5 _ (nextCur (refIter _ n).main_v11_3 (refIter _ n).main_v11_4 _))) n = _
    rw [h0, h1, h2]

/-- The values' scan. -/
theorem scan_v : Scan av bv (Step.A_main_v5 (F := Ideal) x qw kw vw)
    (fun n => (refIter (start aq bq ak bk av bv x qw kw vw) n).main_v11_14)
    (fun n => (refIter (start aq bq ak bk av bv x qw kw vw) n).main_v11_15)
    (fun n => (refIter (start aq bq ak bk av bv x qw kw vw) n).main_v11_18) where
  v0 y := zeros_apply y
  i0 y := zeros_apply y
  iS n := by
    obtain ⟨-, -, -, -, -, -, h0, h1, h2⟩ := consts aq bq ak bk av bv x qw kw vw n
    show nextCur (refIter _ n).main_v11_6 (refIter _ n).main_v11_7 _ = _
    rw [h0, h1]
  vS n := by
    obtain ⟨-, -, -, -, -, -, h0, h1, h2⟩ := consts aq bq ak bk av bv x qw kw vw n
    show reset (before (refIter _ n).main_v11_8 _ (nextCur (refIter _ n).main_v11_6 (refIter _ n).main_v11_7 _)) = _
    rw [h0, h1, h2]
  sS n := by
    obtain ⟨-, -, -, -, -, -, h0, h1, h2⟩ := consts aq bq ak bk av bv x qw kw vw n
    show record _ (spikes (before (refIter _ n).main_v11_8 _ (nextCur (refIter _ n).main_v11_6 (refIter _ n).main_v11_7 _))) n = _
    rw [h0, h1, h2]

/-- A projection of the tokens, at one element. -/
theorem proj_apply (w : FVec Ideal S256x256 .f32) (b : Fin 4) (r : Fin 512) (d : Fin 256) :
    Host.dotGeneral dot_S4x512x256_S256x256_S4x512x256_2_0_01_1_n_n none x
        (transpose S256x256 [1, 0] w transposes_S256x256_S256x256_1_0) (ix3 b r d)
      = ∑ e : Fin 256, x (ix3 b r e) * w (ix2 d e) := by
  pointwise

end States

end Cert.Spiking.Ref

end
-- ==== Proof.RefValue.lean ====
/-
  The reference's result at one element is the common form (`Args.out`).
-/
module

public import proofs.«01_k».proof.Proof.RefIter

@[expose] public section

noncomputable section

namespace Cert.Spiking.Ref

open Idealize.ShloMosaic Idealize.ShloMosaic.StableHlo
open Cert.ReferenceIdeal Cert.ReferenceIdeal.Gen
open Cert.ReferenceIdeal.Step (State step init)

variable (x : FVec Ideal S4x512x256 .f32) (qw kw vw ow : FVec Ideal S256x256 .f32) (ob : FVec Ideal S256 .f32)
  (gw1 : FVec Ideal S64x256 .f32) (gb1 : FVec Ideal S64 .f32) (gw2 : FVec Ideal S32x64 .f32) (gb2 : FVec Ideal S32 .f32)
  (gw3 : FVec Ideal S1x32 .f32) (gb3 : FVec Ideal S1 .f32) (cw1 : FVec Ideal S32x256 .f32) (cb1 : FVec Ideal S32 .f32)
  (cw2 : FVec Ideal S1x32 .f32) (cb2 : FVec Ideal S1 .f32) (aq bq ak bk av bv : FVec Ideal S_ .f32)

/-- The arguments of one batch element, off the reference's arrays. -/
def args (b : Fin 4) : Args where
  X i d := x (ix3 b i d)
  QW o d := qw (ix2 o d)
  KW o d := kw (ix2 o d)
  VW o d := vw (ix2 o d)
  OW o d := ow (ix2 o d)
  OB o := ob (ix1 o)
  G1 k d := gw1 (ix2 k d)
  g1 k := gb1 (ix1 k)
  G2 l k := gw2 (ix2 l k)
  g2 l := gb2 (ix1 l)
  G3 l := gw3 (ix2 0 l)
  g3 := gb3 (ix1 0)
  C1 l d := cw1 (ix2 l d)
  c1 l := cb1 (ix1 l)
  C2 l := cw2 (ix2 0 l)
  c2 := cb2 (ix1 0)
  aq := aq ix0
  bq := bq ix0
  ak := ak ix0
  bk := bk ix0
  av := av ix0
  bv := bv ix0

/-- The mask's words are the windows'. -/
theorem mask_eq (b : Fin 4) (i : Fin 512) (t : Fin 20) : (maskOf (gatePre x gw1 gb1 gw2 gb2 gw3 gb3) (compPre x cw1 cb1 cw2 cb2)) (ix3 b i t) = (args x qw kw vw ow ob gw1 gb1 gw2 gb2 gw3 gb3 cw1 cb1 cw2 cb2 aq bq ak bk av bv b).inside i t.val := by
  rw [maskOf_apply, gatePre_apply, compPre_apply]
  rfl

/-- The masked query spikes. -/
theorem masked_q (b : Fin 4) (i : Fin 512) (t : Fin 20) (h : Fin 8) (c : Fin 32) :
    masked (refIter (start aq bq ak bk av bv x qw kw vw) 20).main_v11_16 (maskOf (gatePre x gw1 gb1 gw2 gb2 gw3 gb3) (compPre x cw1 cb1 cw2 cb2)) (ix5 b i t h c) = (((args x qw kw vw ow ob gw1 gb1 gw2 gb2 gw3 gb3 cw1 cb1 cw2 cb2 aq bq ak bk av bv b).spk (args x qw kw vw ow ob gw1 gb1 gw2 gb2 gw3 gb3 cw1 cb1 cw2 cb2 aq bq ak bk av bv b).aq (args x qw kw vw ow ob gw1 gb1 gw2 gb2 gw3 gb3 cw1 cb1 cw2 cb2 aq bq ak bk av bv b).bq (args x qw kw vw ow ob gw1 gb1 gw2 gb2 gw3 gb3 cw1 cb1 cw2 cb2 aq bq ak bk av bv b).QW i t.val (Args.chan h c) : ℝ) : EReal) := by
  rw [masked_apply, mask_eq x qw kw vw ow ob gw1 gb1 gw2 gb2 gw3 gb3 cw1 cb1 cw2 cb2 aq bq ak bk av bv,
    (scan_q aq bq ak bk av bv x qw kw vw).spike_eq b i _ t 20 (le_refl _) t.isLt]
  have e : Step.A_main_v1 (F := Ideal) x qw kw vw (ix3 b i (Args.chan h c)) = (args x qw kw vw ow ob gw1 gb1 gw2 gb2 gw3 gb3 cw1 cb1 cw2 cb2 aq bq ak bk av bv b).proj (args x qw kw vw ow ob gw1 gb1 gw2 gb2 gw3 gb3 cw1 cb1 cw2 cb2 aq bq ak bk av bv b).QW i (Args.chan h c) :=
    proj_apply x qw b i (Args.chan h c)
  unfold Args.spk
  rw [EReal.coe_mul, ← e]
  rfl

/-- The masked key spikes. -/
theorem masked_k (b : Fin 4) (i : Fin 512) (t : Fin 20) (h : Fin 8) (c : Fin 32) :
    masked (refIter (start aq bq ak bk av bv x qw kw vw) 20).main_v11_17 (maskOf (gatePre x gw1 gb1 gw2 gb2 gw3 gb3) (compPre x cw1 cb1 cw2 cb2)) (ix5 b i t h c) = (((args x qw kw vw ow ob gw1 gb1 gw2 gb2 gw3 gb3 cw1 cb1 cw2 cb2 aq bq ak bk av bv b).spk (args x qw kw vw ow ob gw1 gb1 gw2 gb2 gw3 gb3 cw1 cb1 cw2 cb2 aq bq ak bk av bv b).ak (args x qw kw vw ow ob gw1 gb1 gw2 gb2 gw3 gb3 cw1 cb1 cw2 cb2 aq bq ak bk av bv b).bk (args x qw kw vw ow ob gw1 gb1 gw2 gb2 gw3 gb3 cw1 cb1 cw2 cb2 aq bq ak bk av bv b).KW i t.val (Args.chan h c) : ℝ) : EReal) := by
  rw [masked_apply, mask_eq x qw kw vw ow ob gw1 gb1 gw2 gb2 gw3 gb3 cw1 cb1 cw2 cb2 aq bq ak bk av bv,
    (scan_k aq bq ak bk av bv x qw kw vw).spike_eq b i _ t 20 (le_refl _) t.isLt]
  have e : Step.A_main_v3 (F := Ideal) x qw kw vw (ix3 b i (Args.chan h c)) = (args x qw kw vw ow ob gw1 gb1 gw2 gb2 gw3 gb3 cw1 cb1 cw2 cb2 aq bq ak bk av bv b).proj (args x qw kw vw ow ob gw1 gb1 gw2 gb2 gw3 gb3 cw1 cb1 cw2 cb2 aq bq ak bk av bv b).KW i (Args.chan h c) :=
    proj_apply x kw b i (Args.chan h c)
  unfold Args.spk
  rw [EReal.coe_mul, ← e]
  rfl

/-- The masked value spikes. -/
theorem masked_v (b : Fin 4) (i : Fin 512) (t : Fin 20) (h : Fin 8) (c : Fin 32) :
    masked (refIter (start aq bq ak bk av bv x qw kw vw) 20).main_v11_18 (maskOf (gatePre x gw1 gb1 gw2 gb2 gw3 gb3) (compPre x cw1 cb1 cw2 cb2)) (ix5 b i t h c) = (((args x qw kw vw ow ob gw1 gb1 gw2 gb2 gw3 gb3 cw1 cb1 cw2 cb2 aq bq ak bk av bv b).spk (args x qw kw vw ow ob gw1 gb1 gw2 gb2 gw3 gb3 cw1 cb1 cw2 cb2 aq bq ak bk av bv b).av (args x qw kw vw ow ob gw1 gb1 gw2 gb2 gw3 gb3 cw1 cb1 cw2 cb2 aq bq ak bk av bv b).bv (args x qw kw vw ow ob gw1 gb1 gw2 gb2 gw3 gb3 cw1 cb1 cw2 cb2 aq bq ak bk av bv b).VW i t.val (Args.chan h c) : ℝ) : EReal) := by
  rw [masked_apply, mask_eq x qw kw vw ow ob gw1 gb1 gw2 gb2 gw3 gb3 cw1 cb1 cw2 cb2 aq bq ak bk av bv,
    (scan_v aq bq ak bk av bv x qw kw vw).spike_eq b i _ t 20 (le_refl _) t.isLt]
  have e : Step.A_main_v5 (F := Ideal) x qw kw vw (ix3 b i (Args.chan h c)) = (args x qw kw vw ow ob gw1 gb1 gw2 gb2 gw3 gb3 cw1 cb1 cw2 cb2 aq bq ak bk av bv b).proj (args x qw kw vw ow ob gw1 gb1 gw2 gb2 gw3 gb3 cw1 cb1 cw2 cb2 aq bq ak bk av bv b).VW i (Args.chan h c) :=
    proj_apply x vw b i (Args.chan h c)
  unfold Args.spk
  rw [EReal.coe_mul, ← e]
  rfl

/-- The scaled scores. -/
theorem scores_eq (b : Fin 4) (h : Fin 8) (i j : Fin 512) :
    scores (masked (refIter (start aq bq ak bk av bv x qw kw vw) 20).main_v11_16 (maskOf (gatePre x gw1 gb1 gw2 gb2 gw3 gb3) (compPre x cw1 cb1 cw2 cb2))) (masked (refIter (start aq bq ak bk av bv x qw kw vw) 20).main_v11_17 (maskOf (gatePre x gw1 gb1 gw2 gb2 gw3 gb3) (compPre x cw1 cb1 cw2 cb2))) (ix4 b h i j)
      = (((args x qw kw vw ow ob gw1 gb1 gw2 gb2 gw3 gb3 cw1 cb1 cw2 cb2 aq bq ak bk av bv b).score h i j : ℝ) : EReal) * (scale : EReal) := by
  rw [scores_apply]
  refine congrArg (· * (scale : EReal)) ?_
  unfold Args.score
  rw [← sum_coe]
  refine Finset.sum_congr rfl fun t _ => ?_
  rw [← sum_coe]
  refine Finset.sum_congr rfl fun c _ => ?_
  rw [masked_q x qw kw vw ow ob gw1 gb1 gw2 gb2 gw3 gb3 cw1 cb1 cw2 cb2 aq bq ak bk av bv,
    masked_k x qw kw vw ow ob gw1 gb1 gw2 gb2 gw3 gb3 cw1 cb1 cw2 cb2 aq bq ak bk av bv, EReal.coe_mul]

/-- The reference's result of the scan's last state, at one element. -/
theorem value (b : Fin 4) (i : Fin 512) (o : Fin 256) :
    Step.R_main_v110 (refIter (start aq bq ak bk av bv x qw kw vw) 20) x ow ob gw1 gb1 gw2 gb2 gw3 gb3 cw1 cb1 cw2 cb2 (ix3 b i o) = (args x qw kw vw ow ob gw1 gb1 gw2 gb2 gw3 gb3 cw1 cb1 cw2 cb2 aq bq ak bk av bv b).out i o := by
  rw [result_eq, output_apply]
  unfold Args.out
  refine congrArg₂ (· + ·) (Finset.sum_congr rfl fun d _ => congrArg (· * ow (ix2 o d)) ?_) rfl
  rw [context_apply]
  unfold Args.ctx
  refine Finset.sum_congr rfl fun j _ => ?_
  refine congrArg₂ (· * ·) ?_ ?_
  · rw [weights_apply]
    simp only [expo_apply, scores_eq x qw kw vw ow ob gw1 gb1 gw2 gb2 gw3 gb3 cw1 cb1 cw2 cb2 aq bq ak bk av bv]
  · rw [means_apply]
    refine congrArg (Ideal.div · ((20 : ℝ) : EReal)) ?_
    unfold Args.total
    rw [← sum_coe]
    refine Finset.sum_congr rfl fun t _ => ?_
    rw [masked_v x qw kw vw ow ob gw1 gb1 gw2 gb2 gw3 gb3 cw1 cb1 cw2 cb2 aq bq ak bk av bv]

end Cert.Spiking.Ref

end
-- ==== Proof.Frames.lean ====
/-
  The frames of the three programs and the one named constant.
-/
module

public import proofs.«01_k».proof.Defs
public import proofs.«01_k».proof.Proof.FrameK
public import proofs.«01_k».proof.Proof.RefRun
public import proofs.«01_k».proof.Proof.RefValue
public import Idealize.ShloMosaic.Lib.Quiescent

@[expose] public section

noncomputable section

namespace Cert.Proof

open Idealize.ShloMosaic Idealize.ShloMosaic.TcCoe Idealize.SL.Sem

instance : Cert.Kernel.Facts := Cert.Kernel.Gen.facts
instance : Cert.ReferenceIdeal.Facts := Cert.ReferenceIdeal.Gen.facts

/-- The kernel terminates, with its arguments unchanged and its counters at zero. -/
theorem frame_kernel : Cert.quiescent_Kernel (hKernel := Cert.Kernel.Gen.facts) := fun m ρ _ => Cert.Kernel.Gen.frame m ρ

/-- The states of the reference's scan, off its arguments. -/
def refState (m : (ℓ : Loc Cert.ReferenceIdeal.nD Cert.ReferenceIdeal.τ Cert.ReferenceIdeal.sig) → Buf (Elt Ideal) ℓ)
    (c : Dev Cert.ReferenceIdeal.nD) : ℕ → Cert.ReferenceIdeal.Step.State Ideal :=
  Cert.Spiking.Ref.refIter (Cert.ReferenceIdeal.StepRun.initState m c)

/-- The reference terminates, with its arguments unchanged and its counters at zero. -/
theorem frame_reference : Cert.quiescent_ReferenceIdeal (hReferenceIdeal := Cert.ReferenceIdeal.Gen.facts) := fun m ρ _ =>
  (θ_run (Cert.ReferenceIdeal.defs (F := Ideal)) _ _).mono
    (fun r h => ⟨fun c => (h c).2, Idealize.ShloMosaic.sem_eq_zero_of_no_sems (by decide) r.2⟩)
    (Cert.ReferenceIdeal.StepRun.run_iter (F := Ideal) m ρ (refState m) (fun _ => rfl) (fun _ _ => rfl))

/-- The one constant that the ideal kernel names is one twentieth. -/
theorem preserves : Cert.preserves_Kernel_KernelIdeal :=
  IdealRules.named_const.statement Cert.KernelIdeal.κ "inv_steps" .f32 0x3D4CCCCD#32 ((1 / 20 : ℝ) : EReal) rfl

end Cert.Proof

end
-- ==== Proof.Tile.lean ====
/-
  One 64-row tile of the kernel's scan, as recursions over vectors in the kernel's own operations, and the lists of the
  stores that the unrolled body makes of it.
-/
module

public import proofs.«01_k».proof.Proof.Gen.KernelIdeal.Skeleton
public import proofs.«01_k».proof.Proof.Spec
public import Idealize.ShloMosaic.Lib.Pointwise

@[expose] public section

noncomputable section

namespace Cert.Spiking.Kern

open Idealize.ShloMosaic
open Cert.KernelIdeal Cert.KernelIdeal.Gen

section Generic

variable {F : FTy → Type} [FloatOps F]

/-- The tile of zeros. -/
def zeroT : FVec F S64x256 .f32 := broadcast S64x256 (FloatOps.ofBits .f32 0x00000000#32)

/-- The tile of ones. -/
def oneT : FVec F S64x256 .f32 := broadcast S64x256 (FloatOps.ofBits .f32 0x3F800000#32)

/-- The currents after `n` steps. -/
def curT (α : F .f32) (x : FVec F S64x256 .f32) (n : ℕ) : FVec F S64x256 .f32 :=
  Nat.rec (motive := fun _ => FVec F S64x256 .f32) zeroT (fun _ i => addf (mulf (broadcast S64x256 α) i) x) n

/-- The membranes after `n` steps. -/
def restT (α β : F .f32) (x : FVec F S64x256 .f32) (n : ℕ) : FVec F S64x256 .f32 :=
  Nat.rec (motive := fun _ => FVec F S64x256 .f32) zeroT
    (fun k v => select (cmpf .oge (addf (mulf (broadcast S64x256 β) v) (curT α x (k + 1))) oneT) zeroT
      (addf (mulf (broadcast S64x256 β) v) (curT α x (k + 1)))) n

/-- The membranes of step `n` before the reset. -/
def potT (α β : F .f32) (x : FVec F S64x256 .f32) (n : ℕ) : FVec F S64x256 .f32 :=
  addf (mulf (broadcast S64x256 β) (restT α β x n)) (curT α x (n + 1))

/-- Which neurons fire at step `n`, inside their token's window. -/
def firesT (α β : F .f32) (x lim : FVec F S64x256 .f32) (n : Fin 20) : IVec S64x256 1 :=
  andi (cmpf .oge (potT α β x n.val) oneT) (cmpf .ogt lim (broadcast S64x256 (FloatOps.ofBits .f32 (stepBits n))))

/-- The spikes as bytes. -/
def byteT (α β : F .f32) (x lim : FVec F S64x256 .f32) (n : Fin 20) : IVec S64x256 8 :=
  trunci 8 (select (firesT α β x lim n) (broadcast S64x256 1#32) (broadcast S64x256 0#32)) (by decide)

/-- The sum of the spikes of the first `n` steps. -/
def sumT (α β : F .f32) (x lim : FVec F S64x256 .f32) : (n : ℕ) → n ≤ 20 → FVec F S64x256 .f32
  | 0, _ => zeroT
  | n + 1, h => addf (sumT α β x lim n (Nat.le_of_succ_le h)) (select (firesT α β x lim ⟨n, h⟩) oneT zeroT)

/-- Tile `r`'s rows of an array. -/
def rowsT (q : FVec F S512x256 .f32) (r : Fin 8) : FVec F S64x256 .f32 :=
  extractStridedSlice S64x256 ![64 * r.val, 0] q ((by decide : ∀ r : Fin 8, S512x256.Slices ![64 * r.val, 0] S64x256) r)

/-- Tile `r`'s window lengths, spread over the channels. -/
def limT (l : FVec F S512x1 .f32) (r : Fin 8) : FVec F S64x256 .f32 :=
  addf (broadcastTo S64x256 (extractStridedSlice S64x1 ![64 * r.val, 0] l
    ((by decide : ∀ r : Fin 8, S512x1.Slices ![64 * r.val, 0] S64x1) r)) (by decide)) zeroT

/-- The store of head `h`'s lanes of tile `r` at step `t`. -/
def pieceT (α β : F .f32) (q : FVec F S512x256 .f32) (l : FVec F S512x1 .f32) (r : Fin 8) (t : Fin 20) (h : Fin 8) :
    View.Piece (Elt F) S8x512x640 .i8 :=
  ⟨Rect.unit ![h.val, 64 * r.val, 32 * t.val] S1x64x32.size
      ((by decide : ∀ (h r : Fin 8) (t : Fin 20) (a : Fin 3), ![h.val, 64 * r.val, 32 * t.val] a + S1x64x32.size a ≤ S8x512x640.size a) h r t),
    shapeCast S1x64x32 (extractStridedSlice S64x32 ![0, 32 * h.val] (byteT α β (rowsT q r) (limT l r) t)
      ((by decide : ∀ h : Fin 8, S64x256.Slices ![0, 32 * h.val] S64x32) h)) (by decide)⟩

/-- The numbers below eight, largest first. -/
def down8 : List (Fin 8) := [7, 6, 5, 4, 3, 2, 1, 0]

/-- The numbers below twenty, largest first. -/
def down20 : List (Fin 20) := [19, 18, 17, 16, 15, 14, 13, 12, 11, 10, 9, 8, 7, 6, 5, 4, 3, 2, 1, 0]

/-- The stores of a population's spikes, the last one first. -/
def piecesT (α β : F .f32) (q : FVec F S512x256 .f32) (l : FVec F S512x1 .f32) : List (View.Piece (Elt F) S8x512x640 .i8) :=
  down8.flatMap fun r => down20.flatMap fun t => down8.map fun h => pieceT α β q l r t h

/-- The stores of the sums of the value spikes, the last one first. -/
def sumsT (α β : F .f32) (q : FVec F S512x256 .f32) (l : FVec F S512x1 .f32) : List (View.Piece (Elt F) S512x256 .f32) :=
  down8.map fun r => ⟨Rect.unit ![64 * r.val, 0] S64x256.size
      ((by decide : ∀ (r : Fin 8) (a : Fin 2), ![64 * r.val, 0] a + S64x256.size a ≤ S512x256.size a) r),
    shapeCast S64x256 (sumT α β (rowsT q r) (limT l r) 20 (le_refl _)) (by decide)⟩

end Generic

/-! ## At the extended reals -/

section AtIdeal

variable (α β : Ideal .f32) (x lim : FVec Ideal S64x256 .f32)

theorem zeroT_apply (i : Fin 64) (d : Fin 256) : zeroT (F := Ideal) (ix2 i d) = 0 := Ideal.ofBits_zero_f32

theorem oneT_apply (i : Fin 64) (d : Fin 256) : oneT (F := Ideal) (ix2 i d) = 1 := Ideal.ofBits_one_f32

theorem curT_apply (i : Fin 64) (d : Fin 256) : ∀ n, curT α x n (ix2 i d) = cur α (x (ix2 i d)) n
  | 0 => zeroT_apply i d
  | n + 1 => by
    show α * curT α x n (ix2 i d) + x (ix2 i d) = _
    rw [curT_apply i d n]
    rfl

theorem potT_of (i : Fin 64) (d : Fin 256) (n : ℕ) (h : restT α β x n (ix2 i d) = rest α β (x (ix2 i d)) n) :
    potT α β x n (ix2 i d) = pot α β (x (ix2 i d)) n := by
  show β * restT α β x n (ix2 i d) + curT α x (n + 1) (ix2 i d) = _
  rw [h, curT_apply]
  rfl

/-- The comparison with the threshold. -/
theorem reached (i : Fin 64) (d : Fin 256) (u : FVec Ideal S64x256 .f32) :
    cmpf .oge u oneT (ix2 i d) = BitVec.ofBool (decide ((1 : EReal) ≤ u (ix2 i d))) := by
  show Ideal.cmp .oge (u (ix2 i d)) (oneT (F := Ideal) (ix2 i d)) = _
  rw [oneT_apply]
  rfl

theorem restT_apply (i : Fin 64) (d : Fin 256) : ∀ n, restT α β x n (ix2 i d) = rest α β (x (ix2 i d)) n
  | 0 => zeroT_apply i d
  | n + 1 => by
    have e := potT_of α β x i d n (restT_apply i d n)
    show Scalar.select (cmpf .oge (potT α β x n) oneT (ix2 i d)) (zeroT (ix2 i d)) (potT α β x n (ix2 i d)) = _
    rw [reached, e, zeroT_apply, rest_succ]
    by_cases h : (1 : EReal) ≤ pot α β (x (ix2 i d)) n
    · rw [if_pos h, decide_eq_true h]; rfl
    · rw [if_neg h, decide_eq_false h]; rfl

theorem potT_apply (i : Fin 64) (d : Fin 256) (n : ℕ) : potT α β x n (ix2 i d) = pot α β (x (ix2 i d)) n :=
  potT_of α β x i d n (restT_apply α β x i d n)

/-- Whether a neuron fires inside the window, at one element. -/
theorem firesT_apply (i : Fin 64) (d : Fin 256) (n : Fin 20) :
    firesT α β x lim n (ix2 i d)
      = Args.fire α β (x (ix2 i d)) n.val &&& (Ideal.cmp .ogt (lim (ix2 i d)) ((n.val : ℝ) : EReal) : BitVec 1) := by
  show (cmpf .oge (potT α β x n.val) oneT (ix2 i d)) &&& (Ideal.cmp .ogt (lim (ix2 i d)) (Ideal.ofBits .f32 (stepBits n)) : BitVec 1) = _
  rw [reached, potT_apply, ofBits_step]
  rfl

/-- A truth value as a byte. -/
def byte (b : BitVec 1) : BitVec 8 := (Scalar.select b (1#32) (0#32) : BitVec 32).setWidth 8

theorem byte_toInt (b : BitVec 1) : (byte b).toInt = (b.toNat : ℤ) := by
  revert b; decide

theorem byteT_apply (i : Fin 64) (d : Fin 256) (n : Fin 20) :
    byteT α β x lim n (ix2 i d) = byte (firesT α β x lim n (ix2 i d)) := rfl

/-- The sum of the spikes of the first steps, at one element. -/
theorem sumT_apply (i : Fin 64) (d : Fin 256) : ∀ (n : ℕ) (hn : n ≤ 20),
    sumT α β x lim n hn (ix2 i d)
      = ((∑ t : Fin n, ((firesT α β x lim (t.castLE hn) (ix2 i d)).toNat : ℝ) : ℝ) : EReal)
  | 0, _ => by
    rw [Finset.univ_eq_empty, Finset.sum_empty]
    exact zeroT_apply i d
  | n + 1, hn => by
    rw [Fin.sum_univ_castSucc, EReal.coe_add]
    show sumT α β x lim n (Nat.le_of_succ_le hn) (ix2 i d)
      + Scalar.select (firesT α β x lim ⟨n, hn⟩ (ix2 i d)) (oneT (F := Ideal) (ix2 i d)) (zeroT (F := Ideal) (ix2 i d)) = _
    rw [sumT_apply i d n, oneT_apply, zeroT_apply]
    refine congrArg₂ (· + ·) rfl ?_
    show _ = (((firesT α β x lim ⟨n, hn⟩ (ix2 i d)).toNat : ℝ) : EReal)
    generalize firesT α β x lim ⟨n, hn⟩ (ix2 i d) = b
    rcases (by revert b; decide : b = 0#1 ∨ b = 1#1) with rfl | rfl
    · show (0 : EReal) = _
      simp
    · show (1 : EReal) = _
      simp

variable (q : FVec Ideal S512x256 .f32) (l : FVec Ideal S512x1 .f32)

theorem rowsT_apply (r : Fin 8) (i : Fin 64) (d : Fin 256) :
    rowsT q r (ix2 i d) = q (ix2 ⟨64 * r.val + i.val, by omega⟩ d) := by
  unfold rowsT
  pointwise

theorem limT_apply (r : Fin 8) (i : Fin 64) (d : Fin 256) :
    limT l r (ix2 i d) = l (ix2 ⟨64 * r.val + i.val, by omega⟩ 0) := by
  show broadcastTo S64x256 _ _ (ix2 i d) + zeroT (ix2 i d) = _
  rw [zeroT_apply, add_zero]
  pointwise

/-- Whether a population's neuron fires inside the window, off the whole arrays. -/
def live (i : Fin 512) (d : Fin 256) (t : Fin 20) : BitVec 1 :=
  Args.fire α β (q (ix2 i d)) t.val &&& (Ideal.cmp .ogt (l (ix2 i 0)) ((t.val : ℝ) : EReal) : BitVec 1)

theorem firesT_rows (r : Fin 8) (i : Fin 64) (d : Fin 256) (t : Fin 20) :
    firesT α β (rowsT q r) (limT l r) t (ix2 i d) = live α β q l ⟨64 * r.val + i.val, by omega⟩ d t := by
  rw [firesT_apply, rowsT_apply, limT_apply]
  rfl

/-- The bytes that a population's spikes are stored as: head, token, and the step's lanes side by side. -/
def bytes : S8x512x640.Idx → BitVec 8 := fun y =>
  byte (live α β q l (y 1) ⟨32 * (y 0).val + (y 2).val % 32, by have := (y 0).isLt; have : (y 0).val < 8 := (y 0).isLt; omega⟩
    ⟨(y 2).val / 32, by have : (y 2).val < 640 := (y 2).isLt; omega⟩)

end AtIdeal

end Cert.Spiking.Kern

end
-- ==== Proof.TileRead.lean ====
/-
  The stores of the spikes and of their sums, read back: each store writes the block of one function of the whole array,
  and the stores cover the array, so the array holds that function.
-/
module

public import proofs.«01_k».proof.Proof.Tile

@[expose] public section

noncomputable section

namespace Cert.Spiking.Kern

open Idealize.ShloMosaic
open Cert.KernelIdeal Cert.KernelIdeal.Gen

variable (α β : Ideal .f32) (q : FVec Ideal S512x256 .f32) (l : FVec Ideal S512x1 .f32)

theorem mem_down8 (r : Fin 8) : r ∈ down8 := by revert r; decide

theorem mem_down20 (t : Fin 20) : t ∈ down20 := by revert t; decide

/-- The payload of one store, at one element. -/
theorem pieceT_apply (r : Fin 8) (t : Fin 20) (h : Fin 8) (i : Fin 64) (k : Fin 32) :
    (pieceT α β q l r t h).2 (ix3 (0 : Fin 1) i k)
      = byte (live α β q l ⟨64 * r.val + i.val, by omega⟩ ⟨32 * h.val + k.val, by omega⟩ t) := by
  rw [← firesT_rows, ← byteT_apply]
  unfold pieceT
  dsimp only
  generalize byteT α β (rowsT q r) (limT l r) t = w
  pointwise

theorem pieceT_bytes (r : Fin 8) (t : Fin 20) (h : Fin 8) (x : S1x64x32.Idx) :
    (pieceT α β q l r t h).2 x = bytes α β q l ((pieceT α β q l r t h).1.emb x) := by
  obtain ⟨i, k, rfl⟩ : ∃ (i : Fin 64) (k : Fin 32), x = ix3 (0 : Fin 1) i k := ⟨x 1, x 2, by
    funext a
    fin_cases a
    · exact Subsingleton.elim (α := Fin 1) _ _
    · rfl
    · rfl⟩
  refine (pieceT_apply α β q l r t h i k).trans ?_
  have e0 : ((pieceT α β q l r t h).1.emb (ix3 (0 : Fin 1) i k) 0).val = h.val + 1 * 0 := rfl
  have e1 : ((pieceT α β q l r t h).1.emb (ix3 (0 : Fin 1) i k) 1).val = 64 * r.val + 1 * i.val := rfl
  have e2 : ((pieceT α β q l r t h).1.emb (ix3 (0 : Fin 1) i k) 2).val = 32 * t.val + 1 * k.val := rfl
  have live_congr : ∀ (i i' : Fin 512) (d d' : Fin 256) (t t' : Fin 20), i = i' → d = d' → t = t' →
      byte (live α β q l i d t) = byte (live α β q l i' d' t') := by rintro _ _ _ _ _ _ rfl rfl rfl; rfl
  refine live_congr _ _ _ _ _ _ (Fin.ext ?_) (Fin.ext ?_) (Fin.ext ?_)
  · rw [e1]; show 64 * r.val + i.val = _; omega
  · show _ = 32 * ((pieceT α β q l r t h).1.emb (ix3 (0 : Fin 1) i k) 0).val + ((pieceT α β q l r t h).1.emb (ix3 (0 : Fin 1) i k) 2).val % 32
    rw [e0, e2]; show 32 * h.val + k.val = _; omega
  · show _ = ((pieceT α β q l r t h).1.emb (ix3 (0 : Fin 1) i k) 2).val / 32
    rw [e2]; omega

/-- The stores of a population's spikes leave its bytes. -/
theorem canon_piecesT (y : S8x512x640.Idx) : View.canon (piecesT α β q l) y = bytes α β q l y := by
  refine View.canon_apply_of_pieces _ _ ?_ y ?_
  · intro p hp x
    obtain ⟨r, -, hp⟩ := List.mem_flatMap.mp hp
    obtain ⟨t, -, hp⟩ := List.mem_flatMap.mp hp
    obtain ⟨h, -, rfl⟩ := List.mem_map.mp hp
    exact pieceT_bytes α β q l r t h x
  · have h0 : (y 0).val < 8 := (y 0).isLt
    have h1 : (y 1).val < 512 := (y 1).isLt
    have h2 : (y 2).val < 640 := (y 2).isLt
    refine ⟨pieceT α β q l ⟨(y 1).val / 64, by omega⟩ ⟨(y 2).val / 32, by omega⟩ ⟨(y 0).val, h0⟩,
      List.mem_flatMap.mpr ⟨_, mem_down8 _, List.mem_flatMap.mpr ⟨_, mem_down20 _, List.mem_map.mpr ⟨_, mem_down8 _, rfl⟩⟩⟩, ?_⟩
    unfold pieceT
    rw [Rect.mem_set_unit]
    intro a
    fin_cases a
    · exact ⟨le_refl _, Nat.lt_succ_self _⟩
    · show 64 * ((y 1).val / 64) ≤ (y 1).val ∧ (y 1).val < 64 * ((y 1).val / 64) + 64
      omega
    · show 32 * ((y 2).val / 32) ≤ (y 2).val ∧ (y 2).val < 32 * ((y 2).val / 32) + 32
      omega

/-- How often a population's neuron fires inside the window. -/
def counts : S512x256.Idx → Elt Ideal .f32 := fun y => ((∑ t : Fin 20, ((live α β q l (y 0) (y 1) t).toNat : ℝ) : ℝ) : EReal)

/-- The stores of the sums leave how often each neuron fires. -/
theorem canon_sumsT (y : S512x256.Idx) : View.canon (sumsT α β q l) y = counts α β q l y := by
  refine View.canon_apply_of_pieces (Val := Elt Ideal) (counts α β q l) _ ?_ y ?_
  · intro p hp x
    obtain ⟨r, -, rfl⟩ := List.mem_map.mp hp
    dsimp only at x ⊢
    obtain ⟨i, d, rfl⟩ : ∃ (i : Fin 64) (d : Fin 256), x = ix2 i d := ⟨x 0, x 1, by
      funext a
      fin_cases a <;> rfl⟩
    rw [shapeCast_self, sumT_apply]
    simp only [Fin.castLE_rfl, id_eq, firesT_rows]
    unfold counts
    have f1 : ∀ hr : 64 * r.val + i.val < 512, (⟨64 * r.val + i.val, hr⟩ : Fin 512) = (Rect.unit (s := S512x256) ![64 * r.val, 0] S64x256.size
      ((by decide : ∀ (r : Fin 8) (a : Fin 2), ![64 * r.val, 0] a + S64x256.size a ≤ S512x256.size a) r)).emb (ix2 i d) 0 :=
      fun hr => Fin.ext (by show 64 * r.val + i.val = 64 * r.val + 1 * i.val; omega)
    have f2 : d = (Rect.unit (s := S512x256) ![64 * r.val, 0] S64x256.size
      ((by decide : ∀ (r : Fin 8) (a : Fin 2), ![64 * r.val, 0] a + S64x256.size a ≤ S512x256.size a) r)).emb (ix2 i d) 1 :=
      Fin.ext (by show d.val = 0 + 1 * d.val; omega)
    rw [← f1 (by omega), ← f2]
  · have h0 : (y 0).val < 512 := (y 0).isLt
    have h1 : (y 1).val < 256 := (y 1).isLt
    refine ⟨_, List.mem_map.mpr ⟨⟨(y 0).val / 64, by omega⟩, mem_down8 _, rfl⟩, ?_⟩
    rw [Rect.mem_set_unit]
    intro a
    fin_cases a
    · show 64 * ((y 0).val / 64) ≤ (y 0).val ∧ (y 0).val < 64 * ((y 0).val / 64) + 64
      omega
    · show 0 ≤ (y 1).val ∧ (y 1).val < 0 + 256
      omega

end Cert.Spiking.Kern

end
-- ==== Proof.Head.lean ====
/-
  The kernel's stages outside the scan, in the kernel's own operations: the projections, the window lengths, the scores of
  a head, its context and the final projection, each read at an element over the extended reals.
-/
module

public import proofs.«01_k».proof.Proof.TileRead
public import Idealize.ShloMosaic.Lib.IntMxu

@[expose] public section

noncomputable section

namespace Cert.Spiking.Kern

open Idealize.ShloMosaic
open Cert.KernelIdeal Cert.KernelIdeal.Gen

section Generic

variable {F : FTy → Type} [FloatOps F] [Named F]

/-- A projection of the tokens. -/
def projV (x : FVec F S1x512x256 .f32) (w : FVec F S256x256 .f32) : FVec F S512x256 .f32 :=
  matmul dot_S512x256_S256x256_S512x256_1_1_0_0_n_n none (shapeCast S512x256 x (by decide)) w (constant S512x256 .f32 0x00000000#32)

/-- The gate's two hidden layers. -/
def hiddenV (x : FVec F S1x512x256 .f32) (w1 : FVec F S64x256 .f32) (b1 : FVec F S1x64 .f32) (w2 : FVec F S32x64 .f32)
    (b2 : FVec F S1x32 .f32) : FVec F S512x32 .f32 :=
  maximumf (addf (matmul dot_S512x64_S32x64_S512x32_1_1_0_0_n_n none
      (maximumf (addf (matmul dot_S512x256_S64x256_S512x64_1_1_0_0_n_n none (shapeCast S512x256 x (by decide)) w1
          (constant S512x64 .f32 0x00000000#32)) (broadcastTo S512x64 (shapeCast S1x64 b1 (by decide)) (by decide)))
        (broadcast S512x64 (FloatOps.ofBits .f32 0x00000000#32)))
      w2 (constant S512x32 .f32 0x00000000#32)) (broadcastTo S512x32 (shapeCast S1x32 b2 (by decide)) (by decide)))
    (broadcast S512x32 (FloatOps.ofBits .f32 0x00000000#32))

/-- The complexity's hidden layer. -/
def hiddenC (x : FVec F S1x512x256 .f32) (w1 : FVec F S32x256 .f32) (b1 : FVec F S1x32 .f32) : FVec F S512x32 .f32 :=
  maximumf (addf (matmul dot_S512x256_S32x256_S512x32_1_1_0_0_n_n none (shapeCast S512x256 x (by decide)) w1
      (constant S512x32 .f32 0x00000000#32)) (broadcastTo S512x32 (shapeCast S1x32 b1 (by decide)) (by decide)))
    (broadcast S512x32 (FloatOps.ofBits .f32 0x00000000#32))

/-- The last layer of either network, off the padded weights. -/
def lastV (y : FVec F S512x32 .f32) (w : FVec F S128x32 .f32) (b : FVec F S1x1 .f32) : FVec F S512x1 .f32 :=
  addf (extractStridedSlice S512x1 ![0, 0] (matmul dot_S512x32_S128x32_S512x128_1_1_0_0_n_n none y (shapeCast S128x32 w (by decide))
      (constant S512x128 .f32 0x00000000#32)) (by decide)) (broadcast S512x1 (extractAt ![0, 0] b (by decide)))

/-- The window lengths, off the two networks' outputs. -/
def lenV (g c : FVec F S512x1 .f32) : FVec F S512x1 .f32 :=
  minimumf (broadcast S512x1 (FloatOps.ofBits .f32 0x41A00000#32)) (maximumf (broadcast S512x1 (FloatOps.ofBits .f32 0x3F800000#32))
    (ceil (mulf (addf (mulf (broadcast S512x1 (FloatOps.ofBits .f32 0x3F333333#32)) (logistic g))
      (mulf (broadcast S512x1 (FloatOps.ofBits .f32 0x3E99999A#32)) (logistic c))) (broadcast S512x1 (FloatOps.ofBits .f32 0x41A00000#32)))))

/-- The means of the value spikes. -/
def meanV (s : FVec F S512x256 .f32) : FVec F S512x256 .f32 :=
  mulf s (broadcast S512x256 (Named.named κ "inv_steps" 0x3D4CCCCD#32))

/-- A head's scores before scaling. -/
def scoreV (q k : IVec S1x512x640 8) : FVec F S512x512 .f32 :=
  sitofp .f32 (matmulI8 IntMxuNumerics.v7x dot_S512x640_S512x640_S512x512_1_1_0_0_n_n (shapeCast S512x640 q (by decide))
    (shapeCast S512x640 k (by decide)) (constantI S512x512 32 0#32))

/-- The exponentials of a head's shifted and scaled scores. -/
def expV (s : FVec F S512x512 .f32) : FVec F S512x512 .f32 :=
  exp (mulf (subf s (broadcastTo S512x512 (shapeCast S512x1 (multiReduction .maximumf [1] S512 s 0xFF800000#32 (by decide) (.inl rfl) rfl)
    (by decide)) (by decide))) (broadcast S512x512 (FloatOps.ofBits .f32 0x3E3504F3#32)))

/-- A head's context, off its exponentials and the means. -/
def ctxV (e : FVec F S512x512 .f32) (m : FVec F S512x256 .f32) (h : Fin 8) : FVec F S512x32 .f32 :=
  mulf (matmul dot_S512x512_S512x32_S512x32_1_0_0_1_n_n none e (extractStridedSlice S512x32 ![0, 32 * h.val] m
      ((by decide : ∀ h : Fin 8, S512x256.Slices ![0, 32 * h.val] S512x32) h)) (constant S512x32 .f32 0x00000000#32))
    (broadcastTo S512x32 (divf (broadcast S512x1 (FloatOps.ofBits .f32 0x3F800000#32))
      (extractStridedSlice S512x1 ![0, 0] (matmul dot_S512x512_S8x512_S512x8_1_1_0_0_n_n none e
        (broadcast S8x512 (FloatOps.ofBits .f32 0x3F800000#32)) (constant S512x8 .f32 0x00000000#32)) (by decide))) (by decide))

/-- The final projection and its bias, as the stored block. -/
def outV (c : FVec F S512x256 .f32) (w : FVec F S256x256 .f32) (b : FVec F S1x256 .f32) : FVec F S1x512x256 .f32 :=
  shapeCast S1x512x256 (addf (matmul dot_S512x256_S256x256_S512x256_1_1_0_0_n_n none c w (constant S512x256 .f32 0x00000000#32))
    (broadcastTo S512x256 (shapeCast S1x256 b (by decide)) (by decide))) (by decide)

end Generic

/-! ## At the extended reals -/

theorem projV_apply (x : FVec Ideal S1x512x256 .f32) (w : FVec Ideal S256x256 .f32) (i : Fin 512) (d : Fin 256) :
    projV x w (ix2 i d) = ∑ e : Fin 256, x (ix3 (0 : Fin 1) i e) * w (ix2 d e) := by
  pointwise [projV]

theorem hiddenV_apply (x : FVec Ideal S1x512x256 .f32) (w1 : FVec Ideal S64x256 .f32) (b1 : FVec Ideal S1x64 .f32)
    (w2 : FVec Ideal S32x64 .f32) (b2 : FVec Ideal S1x32 .f32) (i : Fin 512) (l : Fin 32) :
    hiddenV x w1 b1 w2 b2 (ix2 i l)
      = max ((∑ k : Fin 64, max ((∑ d : Fin 256, x (ix3 (0 : Fin 1) i d) * w1 (ix2 k d)) + b1 (ix2 (0 : Fin 1) k)) 0 * w2 (ix2 l k))
          + b2 (ix2 (0 : Fin 1) l)) 0 := by
  pointwise [hiddenV]

theorem hiddenC_apply (x : FVec Ideal S1x512x256 .f32) (w1 : FVec Ideal S32x256 .f32) (b1 : FVec Ideal S1x32 .f32)
    (i : Fin 512) (l : Fin 32) :
    hiddenC x w1 b1 (ix2 i l) = max ((∑ d : Fin 256, x (ix3 (0 : Fin 1) i d) * w1 (ix2 l d)) + b1 (ix2 (0 : Fin 1) l)) 0 := by
  pointwise [hiddenC]

theorem lastV_apply (y : FVec Ideal S512x32 .f32) (w : FVec Ideal S128x32 .f32) (b : FVec Ideal S1x1 .f32) (i : Fin 512) :
    lastV y w b (ix2 i (0 : Fin 1)) = (∑ l : Fin 32, y (ix2 i l) * w (ix2 (0 : Fin 128) l)) + b (ix2 (0 : Fin 1) (0 : Fin 1)) := by
  pointwise [lastV]

theorem lenV_apply (g c : FVec Ideal S512x1 .f32) (i : Fin 512) :
    lenV g c (ix2 i (0 : Fin 1)) = window (combined (g (ix2 i 0)) (c (ix2 i 0)) * ((20 : ℝ) : EReal)) := by
  show min (Ideal.ofBits .f32 0x41A00000#32) (max (Ideal.ofBits .f32 0x3F800000#32) (Ideal.liftRound Int.ceil
    (combined (g (ix2 i 0)) (c (ix2 i 0)) * Ideal.ofBits .f32 0x41A00000#32))) = _
  rw [ofBits_twenty, Ideal.ofBits_one_f32]
  rfl

theorem meanV_apply (s : FVec Ideal S512x256 .f32) (i : Fin 512) (d : Fin 256) :
    meanV s (ix2 i d) = s (ix2 i d) * ((1 / 20 : ℝ) : EReal) :=
  congrArg (s (ix2 i d) * ·) (IdealRules.named_const.ideal_named_scalar _ _ _ _ rfl)

/-- An integer contraction is the same contraction over the extended reals. -/
theorem dotI8_coe {sl sr so : Shape} (d : DotDims sl sr so) (l : IVec sl 8) (r : IVec sr 8) (j : so.Idx) :
    (((dotI8 d l r j : ℤ) : ℝ) : EReal) = matmul (F := Ideal) (φ₁ := .f32) (φ₂ := .f32) d none (fun y => (((l y).toInt : ℝ) : EReal)) (fun y => (((r y).toInt : ℝ) : EReal))
      (constant so .f32 0x00000000#32) j := by
  rw [show matmul (F := Ideal) (φ₁ := .f32) (φ₂ := .f32) d none (fun y => (((l y).toInt : ℝ) : EReal)) (fun y => (((r y).toInt : ℝ) : EReal))
      (constant so .f32 0x00000000#32) j = _ from Ideal.matmul_constant_zero_apply d none _ _ j]
  simp only [← EReal.coe_mul, sum_coe]
  congr 1
  unfold dotI8
  push_cast
  rfl

theorem scoreV_apply (q k : IVec S1x512x640 8) (i j : Fin 512) :
    scoreV (F := Ideal) q k (ix2 i j)
      = ((∑ c : Fin 640, ((q (ix3 (0 : Fin 1) i c)).toInt : ℝ) * ((k (ix3 (0 : Fin 1) j c)).toInt : ℝ) : ℝ) : EReal) := by
  show (((matmulI8 IntMxuNumerics.v7x dot_S512x640_S512x640_S512x512_1_1_0_0_n_n (shapeCast S512x640 q (by decide))
    (shapeCast S512x640 k (by decide)) (constantI S512x512 32 0#32) (ix2 i j)).toInt : ℝ) : EReal) = _
  rw [matmulI8_toInt _ _ _ _ _ _ rfl ((absDotI8_le_numel _ _ _ _).trans (by decide)), dotI8_coe, ← sum_coe]
  simp only [EReal.coe_mul]
  pointwise

theorem expV_apply (s : FVec Ideal S512x512 .f32) (i j : Fin 512) :
    expV s (ix2 i j) = Ideal.exp ((s (ix2 i j) - Finset.univ.fold max (⊥ : EReal) (fun l : Fin 512 => s (ix2 i l))) * (scale : EReal)) := by
  have hm : multiReduction .maximumf [1] S512 s 0xFF800000#32 (by decide) (.inl rfl) rfl (ix1 i)
      = Finset.univ.fold max (⊥ : EReal) (fun l : Fin 512 => s (ix2 i l)) := by
    rw [← ofBits_ninf]
    refine (Ideal.multiReduction_maximumf_single s _ (by decide) _ rfl (ix1 i)).trans ?_
    congr 1
    funext l
    show s _ = s _
    congr 1
    funext a
    fin_cases a <;> rfl
  rw [← hm, ← ofBits_scale]
  unfold expV
  generalize multiReduction .maximumf [1] S512 s 0xFF800000#32 (by decide) (.inl rfl) rfl = m
  pointwise

theorem ctxV_apply (e : FVec Ideal S512x512 .f32) (m : FVec Ideal S512x256 .f32) (h : Fin 8) (i : Fin 512) (c : Fin 32) :
    ctxV e m h (ix2 i c) = (∑ j : Fin 512, e (ix2 i j) * m (ix2 j ⟨32 * h.val + c.val, by omega⟩))
      * Ideal.div 1 (∑ j : Fin 512, e (ix2 i j) * 1) := by
  pointwise [ctxV]

theorem outV_apply (c : FVec Ideal S512x256 .f32) (w : FVec Ideal S256x256 .f32) (b : FVec Ideal S1x256 .f32) (i : Fin 512) (o : Fin 256) :
    outV c w b (ix3 (0 : Fin 1) i o) = (∑ d : Fin 256, c (ix2 i d) * w (ix2 o d)) + b (ix2 (0 : Fin 1) o) := by
  pointwise [outV]

end Cert.Spiking.Kern

end
-- ==== Proof.KernValue.lean ====
/-
  What the kernel's stages make of one block of its arguments: the common form of Spec.lean.
-/
module

public import proofs.«01_k».proof.Proof.Head

@[expose] public section

noncomputable section

namespace Cert.Spiking.Kern

open Idealize.ShloMosaic
open Cert.KernelIdeal Cert.KernelIdeal.Gen

/-- What the kernel's body reads: a block of tokens, the weights (the two last layers' padded to 128 rows), the biases and
    the six decays. -/
structure Blk (F : FTy → Type) where
  x : FVec F S1x512x256 .f32
  qw : FVec F S256x256 .f32
  kw : FVec F S256x256 .f32
  vw : FVec F S256x256 .f32
  ow : FVec F S256x256 .f32
  ob : FVec F S1x256 .f32
  gw1 : FVec F S64x256 .f32
  gb1 : FVec F S1x64 .f32
  gw2 : FVec F S32x64 .f32
  gb2 : FVec F S1x32 .f32
  gw3 : FVec F S128x32 .f32
  gb3 : FVec F S1x1 .f32
  cw1 : FVec F S32x256 .f32
  cb1 : FVec F S1x32 .f32
  cw2 : FVec F S128x32 .f32
  cb2 : FVec F S1x1 .f32
  aq : F .f32
  bq : F .f32
  ak : F .f32
  bk : F .f32
  av : F .f32
  bv : F .f32

namespace Blk

/-- The queries, keys and values. -/
def q {F : FTy → Type} [FloatOps F] (B : Blk F) : FVec F S512x256 .f32 := projV B.x B.qw

def k {F : FTy → Type} [FloatOps F] (B : Blk F) : FVec F S512x256 .f32 := projV B.x B.kw

def v {F : FTy → Type} [FloatOps F] (B : Blk F) : FVec F S512x256 .f32 := projV B.x B.vw

/-- The window lengths. -/
def len {F : FTy → Type} [FloatOps F] (B : Blk F) : FVec F S512x1 .f32 :=
  lenV (lastV (hiddenV B.x B.gw1 B.gb1 B.gw2 B.gb2) B.gw3 B.gb3) (lastV (hiddenC B.x B.cw1 B.cb1) B.cw2 B.cb2)

/-- The stores of the query spikes, of the key spikes and of the value spikes' sums. -/
def qPieces {F : FTy → Type} [FloatOps F] (B : Blk F) : List (View.Piece (Elt F) S8x512x640 .i8) := piecesT B.aq B.bq B.q B.len

def kPieces {F : FTy → Type} [FloatOps F] (B : Blk F) : List (View.Piece (Elt F) S8x512x640 .i8) := piecesT B.ak B.bk B.k B.len

def vPieces {F : FTy → Type} [FloatOps F] (B : Blk F) : List (View.Piece (Elt F) S512x256 .f32) := sumsT B.av B.bv B.v B.len

/-- The same arguments by plain indices. -/
def args (B : Blk Ideal) : Args where
  X i e := B.x (ix3 (0 : Fin 1) i e)
  QW d e := B.qw (ix2 d e)
  KW d e := B.kw (ix2 d e)
  VW d e := B.vw (ix2 d e)
  OW o d := B.ow (ix2 o d)
  OB o := B.ob (ix2 (0 : Fin 1) o)
  G1 k d := B.gw1 (ix2 k d)
  g1 k := B.gb1 (ix2 (0 : Fin 1) k)
  G2 l k := B.gw2 (ix2 l k)
  g2 l := B.gb2 (ix2 (0 : Fin 1) l)
  G3 l := B.gw3 (ix2 (0 : Fin 128) l)
  g3 := B.gb3 (ix2 (0 : Fin 1) (0 : Fin 1))
  C1 l d := B.cw1 (ix2 l d)
  c1 l := B.cb1 (ix2 (0 : Fin 1) l)
  C2 l := B.cw2 (ix2 (0 : Fin 128) l)
  c2 := B.cb2 (ix2 (0 : Fin 1) (0 : Fin 1))
  aq := B.aq
  bq := B.bq
  ak := B.ak
  bk := B.bk
  av := B.av
  bv := B.bv

variable (B : Blk Ideal)

theorem len_apply (i : Fin 512) : B.len (ix2 i (0 : Fin 1)) = B.args.len i := by
  unfold len
  rw [lenV_apply, lastV_apply, lastV_apply]
  simp only [hiddenV_apply, hiddenC_apply]
  rfl

theorem bit_and (a b : BitVec 1) : (a &&& b).toNat = a.toNat * b.toNat := by revert a b; decide

/-- A spike of the scan is the common form's. -/
theorem live_eq (a b : EReal) (w : FVec Ideal S256x256 .f32) (i : Fin 512) (d : Fin 256) (t : Fin 20) :
    ((live a b (projV B.x w) B.len i d t).toNat : ℝ) = B.args.spk a b (fun d e => w (ix2 d e)) i t.val d := by
  unfold live Args.spk Args.inside
  rw [bit_and, projV_apply, len_apply]
  unfold Args.len
  rw [window_cmp _ _ t.isLt]
  push_cast
  rfl

/-- A stored byte, as a number. -/
theorem bytes_toInt (a b : EReal) (w : FVec Ideal S256x256 .f32) (h : Fin 8) (i : Fin 512) (t : Fin 20) (c : Fin 32) :
    ((bytes a b (projV B.x w) B.len (ix3 h i ⟨c.val + 32 * t.val, by omega⟩)).toInt : ℝ)
      = B.args.spk a b (fun d e => w (ix2 d e)) i t.val (Args.chan h c) := by
  rw [← live_eq]
  unfold bytes
  rw [byte_toInt]
  push_cast
  have live_congr : ∀ (d d' : Fin 256) (s s' : Fin 20), d = d' → s = s' →
      ((live a b (projV B.x w) B.len i d s).toNat : ℝ) = ((live a b (projV B.x w) B.len i d' s').toNat : ℝ) := by
    rintro _ _ _ _ rfl rfl; rfl
  refine live_congr _ _ _ _ (Fin.ext ?_) (Fin.ext ?_)
  · show 32 * h.val + (c.val + 32 * t.val) % 32 = h.val * 32 + c.val
    omega
  · show (c.val + 32 * t.val) / 32 = t.val
    omega

/-- The lanes of a head's row are the steps' lanes side by side. -/
theorem sum_lanes (f : Fin 640 → ℝ) :
    ∑ c : Fin 640, f c = ∑ t : Fin 20, ∑ c : Fin 32, f ⟨c.val + 32 * t.val, by omega⟩ := by
  rw [← Finset.sum_product', ← (finProdFinEquiv (m := 20) (n := 32)).sum_comp f]
  rfl

theorem score_eq (h : Fin 8) (qb kb : IVec S1x512x640 8)
    (hq : ∀ (i : Fin 512) (c : Fin 640), qb (ix3 (0 : Fin 1) i c) = bytes B.aq B.bq B.q B.len (ix3 h i c))
    (hk : ∀ (i : Fin 512) (c : Fin 640), kb (ix3 (0 : Fin 1) i c) = bytes B.ak B.bk B.k B.len (ix3 h i c)) (i j : Fin 512) :
    scoreV (F := Ideal) qb kb (ix2 i j) = (B.args.score h i j : EReal) := by
  rw [scoreV_apply, sum_lanes]
  unfold Args.score
  simp only [hq, hk]
  unfold Blk.q Blk.k
  simp only [bytes_toInt]
  rfl

/-- A head's context is the common form's. -/
theorem ctx_eq (h : Fin 8) (qb kb : IVec S1x512x640 8) (vs : FVec Ideal S512x256 .f32)
    (hq : ∀ (i : Fin 512) (c : Fin 640), qb (ix3 (0 : Fin 1) i c) = bytes B.aq B.bq B.q B.len (ix3 h i c))
    (hk : ∀ (i : Fin 512) (c : Fin 640), kb (ix3 (0 : Fin 1) i c) = bytes B.ak B.bk B.k B.len (ix3 h i c))
    (hv : ∀ (i : Fin 512) (d : Fin 256), vs (ix2 i d) = counts B.av B.bv B.v B.len (ix2 i d)) (i : Fin 512) (c : Fin 32) :
    ctxV (expV (scoreV qb kb)) (meanV vs) h (ix2 i c) = B.args.ctx h i c := by
  have hs := B.score_eq h qb kb hq hk
  rw [ctxV_apply]
  simp only [expV_apply, hs, meanV_apply, hv]
  have ht : ∀ j, counts B.av B.bv B.v B.len (ix2 j ⟨32 * h.val + c.val, by omega⟩) = (B.args.total j (Args.chan h c) : EReal) := by
    intro j
    unfold counts Args.total
    congr 1
    refine Finset.sum_congr rfl fun t _ => ?_
    refine (B.live_eq B.av B.bv B.vw j _ t).trans ?_
    congr 1
    exact Fin.ext (by show 32 * h.val + c.val = h.val * 32 + c.val; omega)
  simp only [ht]
  exact softmax_average (B.args.score h i) (fun j => B.args.total j (Args.chan h c)) scale scale_pos

end Blk

end Cert.Spiking.Kern

end
-- ==== Proof.RunPartsI.lean ====
/-
  The ideal kernel's whole body, run: what its stores leave in the result's block and in the four scratch buffers, as
  lists of pieces, with the proof that the body leaves it. The text follows the generated certificate's run module, with
  the body run part by part.
-/
module

public import proofs.«01_k».proof.Proof.Gen.KernelIdeal.Frame.Runs

@[expose] public section

-- the buffers' axes are long, and membership in a rectangle of them is decided coordinate by coordinate
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- the body has 160 unrolled tile steps, so its run is long
set_option maxHeartbeats 35388000 in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S1x512x256 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S64x256 .f32) (harg7 : arg7.IsWhole) (arg8 : Memref sig .tc .vmem S1x64 .f32) (harg8 : arg8.IsWhole) (arg9 : Memref sig .tc .vmem S32x64 .f32) (harg9 : arg9.IsWhole) (arg10 : Memref sig .tc .vmem S1x32 .f32) (harg10 : arg10.IsWhole) (arg11 : Memref sig .tc .vmem S128x32 .f32) (harg11 : arg11.IsWhole) (arg12 : Memref sig .tc .vmem S1x1 .f32) (harg12 : arg12.IsWhole) (arg13 : Memref sig .tc .vmem S32x256 .f32) (harg13 : arg13.IsWhole) (arg14 : Memref sig .tc .vmem S1x32 .f32) (harg14 : arg14.IsWhole) (arg15 : Memref sig .tc .vmem S128x32 .f32) (harg15 : arg15.IsWhole) (arg16 : Memref sig .tc .vmem S1x1 .f32) (harg16 : arg16.IsWhole) (arg17 : Memref sig .tc .smem S1x6 .f32) (harg17 : arg17.IsWhole) (arg18 : Memref sig .tc .vmem S1x512x256 .f32) (harg18 : arg18.IsWhole) (arg19 : Memref sig .tc .vmem S8x512x640 .i8) (harg19 : arg19.IsWhole) (arg20 : Memref sig .tc .vmem S8x512x640 .i8) (harg20 : arg20.IsWhole) (arg21 : Memref sig .tc .vmem S512x256 .f32) (harg21 : arg21.IsWhole) (arg22 : Memref sig .tc .vmem S512x256 .f32) (harg22 : arg22.IsWhole)
    (x0 : Vec F S1x512x256 .f32) (x1 : Vec F S256x256 .f32) (x2 : Vec F S256x256 .f32) (x3 : Vec F S256x256 .f32) (x4 : Vec F S256x256 .f32) (x5 : Vec F S1x256 .f32) (x6 : Vec F S64x256 .f32) (x7 : Vec F S1x64 .f32) (x8 : Vec F S32x64 .f32) (x9 : Vec F S1x32 .f32) (x10 : Vec F S128x32 .f32) (x11 : Vec F S1x1 .f32) (x12 : Vec F S32x256 .f32) (x13 : Vec F S1x32 .f32) (x14 : Vec F S128x32 .f32) (x15 : Vec F S1x1 .f32) (x16 : Vec F S1x6 .f32) :
    Σ' (L17 : List (View.Piece (Elt F) S1x512x256 .f32)), Σ' (LT0 : List (View.Piece (Elt F) S8x512x640 .i8)), Σ' (LT1 : List (View.Piece (Elt F) S8x512x640 .i8)), Σ' (LT2 : List (View.Piece (Elt F) S512x256 .f32)), { LT3 : List (View.Piece (Elt F) S512x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f LT0) ∗ (∃ f, arg20.view.loc (c : Thread nD τ) ↦[arg20.view.set]{fullShare} arg20.view.writes (Elt F) f LT1) ∗ (∃ f, arg21.view.loc (c : Thread nD τ) ↦[arg21.view.set]{fullShare} arg21.view.writes (Elt F) f LT2) ∗ (∃ f, arg22.view.loc (c : Thread nD τ) ↦[arg22.view.set]{fullShare} arg22.view.writes (Elt F) f LT3)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, ?_, fun E K => ?run⟩
  case run =>
    simp only [cc0__fused_kernel_eq_skeleton]; unfold cc0__fused_kernel_skel
    simp only [k0_part510_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part511_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part512_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part513_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part514_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part515_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part516_eq_skeleton, k0_part361_eq_skeleton, k0_part362_eq_skeleton, k0_part363_eq_skeleton, k0_part364_eq_skeleton, k0_part365_eq_skeleton, k0_part366_eq_skeleton, k0_part367_eq_skeleton, k0_part368_eq_skeleton, k0_part369_eq_skeleton, k0_part370_eq_skeleton, k0_part371_eq_skeleton, k0_part372_eq_skeleton, k0_part373_eq_skeleton, k0_part374_eq_skeleton, k0_part375_eq_skeleton, k0_part376_eq_skeleton, k0_part377_eq_skeleton, k0_part378_eq_skeleton, k0_part379_eq_skeleton, k0_part380_eq_skeleton, k0_part381_eq_skeleton, k0_part382_eq_skeleton, k0_part383_eq_skeleton, k0_part384_eq_skeleton, k0_part385_eq_skeleton, k0_part386_eq_skeleton, k0_part387_eq_skeleton, k0_part388_eq_skeleton, k0_part389_eq_skeleton, k0_part390_eq_skeleton, k0_part391_eq_skeleton, k0_part392_eq_skeleton, k0_part393_eq_skeleton, k0_part394_eq_skeleton, k0_part395_eq_skeleton, k0_part396_eq_skeleton, k0_part397_eq_skeleton, k0_part398_eq_skeleton, k0_part399_eq_skeleton, k0_part400_eq_skeleton, k0_part401_eq_skeleton, k0_part402_eq_skeleton, k0_part403_eq_skeleton, k0_part404_eq_skeleton, k0_part405_eq_skeleton, k0_part406_eq_skeleton, k0_part407_eq_skeleton, k0_part408_eq_skeleton, k0_part409_eq_skeleton, k0_part410_eq_skeleton, k0_part411_eq_skeleton, k0_part412_eq_skeleton, k0_part413_eq_skeleton, k0_part414_eq_skeleton, k0_part415_eq_skeleton, k0_part416_eq_skeleton, k0_part417_eq_skeleton, k0_part418_eq_skeleton, k0_part419_eq_skeleton, k0_part420_eq_skeleton, k0_part517_eq_skeleton, k0_part421_eq_skeleton, k0_part422_eq_skeleton, k0_part423_eq_skeleton, k0_part424_eq_skeleton, k0_part425_eq_skeleton, k0_part426_eq_skeleton, k0_part427_eq_skeleton, k0_part428_eq_skeleton, k0_part429_eq_skeleton, k0_part430_eq_skeleton, k0_part431_eq_skeleton, k0_part432_eq_skeleton, k0_part433_eq_skeleton, k0_part434_eq_skeleton, k0_part435_eq_skeleton, k0_part436_eq_skeleton, k0_part437_eq_skeleton, k0_part438_eq_skeleton, k0_part439_eq_skeleton, k0_part440_eq_skeleton, k0_part441_eq_skeleton, k0_part442_eq_skeleton, k0_part443_eq_skeleton, k0_part444_eq_skeleton, k0_part445_eq_skeleton, k0_part446_eq_skeleton, k0_part447_eq_skeleton, k0_part448_eq_skeleton, k0_part449_eq_skeleton, k0_part450_eq_skeleton, k0_part451_eq_skeleton, k0_part452_eq_skeleton, k0_part453_eq_skeleton, k0_part454_eq_skeleton, k0_part455_eq_skeleton, k0_part456_eq_skeleton, k0_part457_eq_skeleton, k0_part458_eq_skeleton, k0_part459_eq_skeleton, k0_part460_eq_skeleton, k0_part461_eq_skeleton, k0_part462_eq_skeleton, k0_part463_eq_skeleton, k0_part464_eq_skeleton, k0_part465_eq_skeleton, k0_part466_eq_skeleton, k0_part467_eq_skeleton, k0_part468_eq_skeleton, k0_part469_eq_skeleton, k0_part470_eq_skeleton, k0_part471_eq_skeleton, k0_part472_eq_skeleton, k0_part473_eq_skeleton, k0_part474_eq_skeleton, k0_part475_eq_skeleton, k0_part476_eq_skeleton, k0_part477_eq_skeleton, k0_part478_eq_skeleton, k0_part479_eq_skeleton, k0_part480_eq_skeleton, k0_part518_eq_skeleton, k0_part481_eq_skeleton, k0_part482_eq_skeleton, k0_part483_eq_skeleton, k0_part484_eq_skeleton, k0_part485_eq_skeleton, k0_part486_eq_skeleton, k0_part487_eq_skeleton, k0_part488_eq_skeleton, k0_part489_eq_skeleton, k0_part490_eq_skeleton, k0_part491_eq_skeleton, k0_part492_eq_skeleton, k0_part493_eq_skeleton, k0_part494_eq_skeleton, k0_part495_eq_skeleton, k0_part496_eq_skeleton, k0_part497_eq_skeleton, k0_part498_eq_skeleton, k0_part499_eq_skeleton, k0_part500_eq_skeleton, k0_part501_eq_skeleton, k0_part502_eq_skeleton, k0_part503_eq_skeleton, k0_part504_eq_skeleton, k0_part505_eq_skeleton, k0_part506_eq_skeleton, k0_part507_eq_skeleton, k0_part508_eq_skeleton, k0_part509_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16
    sl_exec_parts
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]; · iexists _; iexact H17
    isplitl [HS0]; · iexists _; iexact HS0
    isplitl [HS1]; · iexists _; iexact HS1
    isplitl [HS2]; · iexists _; iexact HS2
    iexists _; iexact HS3

end Cert.KernelIdeal.Gen

end
-- ==== Proof.Seen.lean ====
/-
  The blocks as the body loads them.
-/
module

public import proofs.«01_k».proof.Proof.KernValue
public import proofs.«01_k».proof.Proof.RunPartsI

@[expose] public section

noncomputable section

namespace Cert.Spiking.Kern

open Idealize.ShloMosaic Idealize.ShloMosaic.TcCoe Idealize.ShloMosaic.Tactic
open Cert.KernelIdeal Cert.KernelIdeal.Gen

variable {F : FTy → Type} [FloatOps F] [Named F]
variable (arg1 : Memref sig .tc .vmem S1x512x256 .f32) (harg1 : arg1.IsWhole)
  (arg2 : Memref sig .tc .vmem S256x256 .f32) (harg2 : arg2.IsWhole)
  (arg3 : Memref sig .tc .vmem S256x256 .f32) (harg3 : arg3.IsWhole)
  (arg4 : Memref sig .tc .vmem S256x256 .f32) (harg4 : arg4.IsWhole)
  (arg5 : Memref sig .tc .vmem S256x256 .f32) (harg5 : arg5.IsWhole)
  (arg6 : Memref sig .tc .vmem S1x256 .f32) (harg6 : arg6.IsWhole)
  (arg7 : Memref sig .tc .vmem S64x256 .f32) (harg7 : arg7.IsWhole)
  (arg8 : Memref sig .tc .vmem S1x64 .f32) (harg8 : arg8.IsWhole)
  (arg9 : Memref sig .tc .vmem S32x64 .f32) (harg9 : arg9.IsWhole)
  (arg10 : Memref sig .tc .vmem S1x32 .f32) (harg10 : arg10.IsWhole)
  (arg11 : Memref sig .tc .vmem S128x32 .f32) (harg11 : arg11.IsWhole)
  (arg12 : Memref sig .tc .vmem S1x1 .f32) (harg12 : arg12.IsWhole)
  (arg13 : Memref sig .tc .vmem S32x256 .f32) (harg13 : arg13.IsWhole)
  (arg14 : Memref sig .tc .vmem S1x32 .f32) (harg14 : arg14.IsWhole)
  (arg15 : Memref sig .tc .vmem S128x32 .f32) (harg15 : arg15.IsWhole)
  (arg16 : Memref sig .tc .vmem S1x1 .f32) (harg16 : arg16.IsWhole)
  (arg17 : Memref sig .tc .smem S1x6 .f32) (harg17 : arg17.IsWhole) (x0 : Vec F S1x512x256 .f32) (x1 : Vec F S256x256 .f32)
  (x2 : Vec F S256x256 .f32) (x3 : Vec F S256x256 .f32) (x4 : Vec F S256x256 .f32) (x5 : Vec F S1x256 .f32)
  (x6 : Vec F S64x256 .f32) (x7 : Vec F S1x64 .f32) (x8 : Vec F S32x64 .f32) (x9 : Vec F S1x32 .f32) (x10 : Vec F S128x32 .f32)
  (x11 : Vec F S1x1 .f32) (x12 : Vec F S32x256 .f32) (x13 : Vec F S1x32 .f32) (x14 : Vec F S128x32 .f32) (x15 : Vec F S1x1 .f32)
  (x16 : Vec F S1x6 .f32)

/-- What the body's loads of its inputs read. -/
def seen : Blk F where
  x := View.readAt (Elt F) arg1.view (Rect.unit ![0, 0, 0] S1x512x256.size (by decide)).toLoadRect (harg1.unread x0)
  qw := View.readAt (Elt F) arg2.view (Rect.unit ![0, 0] S256x256.size (by decide)).toLoadRect (harg2.unread x1)
  kw := View.readAt (Elt F) arg3.view (Rect.unit ![0, 0] S256x256.size (by decide)).toLoadRect (harg3.unread x2)
  vw := View.readAt (Elt F) arg4.view (Rect.unit ![0, 0] S256x256.size (by decide)).toLoadRect (harg4.unread x3)
  ow := View.readAt (Elt F) arg5.view (Rect.unit ![0, 0] S256x256.size (by decide)).toLoadRect (harg5.unread x4)
  ob := View.readAt (Elt F) arg6.view (Rect.unit ![0, 0] S1x256.size (by decide)).toLoadRect (harg6.unread x5)
  gw1 := View.readAt (Elt F) arg7.view (Rect.unit ![0, 0] S64x256.size (by decide)).toLoadRect (harg7.unread x6)
  gb1 := View.readAt (Elt F) arg8.view (Rect.unit ![0, 0] S1x64.size (by decide)).toLoadRect (harg8.unread x7)
  gw2 := View.readAt (Elt F) arg9.view (Rect.unit ![0, 0] S32x64.size (by decide)).toLoadRect (harg9.unread x8)
  gb2 := View.readAt (Elt F) arg10.view (Rect.unit ![0, 0] S1x32.size (by decide)).toLoadRect (harg10.unread x9)
  gw3 := View.readAt (Elt F) arg11.view (Rect.unit ![0, 0] S128x32.size (by decide)).toLoadRect (harg11.unread x10)
  gb3 := View.readAt (Elt F) arg12.view (Rect.unit ![0, 0] S1x1.size (by decide)).toLoadRect (harg12.unread x11)
  cw1 := View.readAt (Elt F) arg13.view (Rect.unit ![0, 0] S32x256.size (by decide)).toLoadRect (harg13.unread x12)
  cb1 := View.readAt (Elt F) arg14.view (Rect.unit ![0, 0] S1x32.size (by decide)).toLoadRect (harg14.unread x13)
  cw2 := View.readAt (Elt F) arg15.view (Rect.unit ![0, 0] S128x32.size (by decide)).toLoadRect (harg15.unread x14)
  cb2 := View.readAt (Elt F) arg16.view (Rect.unit ![0, 0] S1x1.size (by decide)).toLoadRect (harg16.unread x15)
  aq := View.readAt (Elt F) arg17.view (Rect.unit (s := S1x6) ![0, 0] S1x1.size (by decide)).toLoadRect (harg17.unread x16) (Shape.Idx.first (by decide))
  bq := View.readAt (Elt F) arg17.view (Rect.unit (s := S1x6) ![0, 1] S1x1.size (by decide)).toLoadRect (harg17.unread x16) (Shape.Idx.first (by decide))
  ak := View.readAt (Elt F) arg17.view (Rect.unit (s := S1x6) ![0, 2] S1x1.size (by decide)).toLoadRect (harg17.unread x16) (Shape.Idx.first (by decide))
  bk := View.readAt (Elt F) arg17.view (Rect.unit (s := S1x6) ![0, 3] S1x1.size (by decide)).toLoadRect (harg17.unread x16) (Shape.Idx.first (by decide))
  av := View.readAt (Elt F) arg17.view (Rect.unit (s := S1x6) ![0, 4] S1x1.size (by decide)).toLoadRect (harg17.unread x16) (Shape.Idx.first (by decide))
  bv := View.readAt (Elt F) arg17.view (Rect.unit (s := S1x6) ![0, 5] S1x1.size (by decide)).toLoadRect (harg17.unread x16) (Shape.Idx.first (by decide))

end Cert.Spiking.Kern

end
-- ==== Proof.Pieces.lean ====
/-
  What the body stores into its output block, off the blocks it loads: every store into scratch is one of the lists of
  Tile.lean, and the heads read them back.
-/
module

public import proofs.«01_k».proof.Proof.KernValue
public import proofs.«01_k».proof.Proof.Seen

@[expose] public section

noncomputable section

namespace Cert.Spiking.Kern

open Idealize.ShloMosaic Idealize.ShloMosaic.TcCoe Idealize.ShloMosaic.Tactic
open Cert.KernelIdeal Cert.KernelIdeal.Gen

variable {F : FTy → Type} [FloatOps F] [Named F]

/-- A head's rows of a population's bytes, read back. -/
def loadB (M : Memref sig .tc .vmem S8x512x640 .i8) (L : List (View.Piece (Elt F) S8x512x640 .i8)) (h : Fin 8) : IVec S1x512x640 8 :=
  M.view.readCov L (Rect.unit (s := S8x512x640) ![h.val, 0, 0] S1x512x640.size
    ((by decide : ∀ (h : Fin 8) (a : Fin 3), ![h.val, 0, 0] a + S1x512x640.size a ≤ S8x512x640.size a) h)).toLoadRect

/-- A scratch array of the tokens' channels, read back whole. -/
def loadF (M : Memref sig .tc .vmem S512x256 .f32) (L : List (View.Piece (Elt F) S512x256 .f32)) : FVec F S512x256 .f32 :=
  M.view.readCov L (Rect.unit (s := S512x256) ![0, 0] S512x256.size (by decide)).toLoadRect

/-- The stores of the heads' contexts, the last one first. -/
def ctxPieces (B : Blk F) (M19 M20 : Memref sig .tc .vmem S8x512x640 .i8) (M21 : Memref sig .tc .vmem S512x256 .f32) :
    List (View.Piece (Elt F) S512x256 .f32) :=
  down8.map fun h => ⟨Rect.unit ![0, 32 * h.val] S512x32.size
      ((by decide : ∀ (h : Fin 8) (a : Fin 2), ![0, 32 * h.val] a + S512x32.size a ≤ S512x256.size a) h),
    shapeCast S512x32 (ctxV (expV (scoreV (loadB M19 B.qPieces h) (loadB M20 B.kPieces h))) (meanV (loadF M21 B.vPieces)) h) (by decide)⟩

/-- The store of the output block. -/
def outPieces (B : Blk F) (M19 M20 : Memref sig .tc .vmem S8x512x640 .i8) (M21 M22 : Memref sig .tc .vmem S512x256 .f32) :
    List (View.Piece (Elt F) S1x512x256 .f32) :=
  [⟨Rect.unit ![0, 0, 0] S1x512x256.size (by decide), outV (loadF M22 (ctxPieces B M19 M20 M21)) B.ow B.ob⟩]

variable (c : Dev nD) (i : grid0.Coords) (arg1 : Memref sig .tc .vmem S1x512x256 .f32) (harg1 : arg1.IsWhole)
  (arg2 : Memref sig .tc .vmem S256x256 .f32) (harg2 : arg2.IsWhole)
  (arg3 : Memref sig .tc .vmem S256x256 .f32) (harg3 : arg3.IsWhole)
  (arg4 : Memref sig .tc .vmem S256x256 .f32) (harg4 : arg4.IsWhole)
  (arg5 : Memref sig .tc .vmem S256x256 .f32) (harg5 : arg5.IsWhole)
  (arg6 : Memref sig .tc .vmem S1x256 .f32) (harg6 : arg6.IsWhole)
  (arg7 : Memref sig .tc .vmem S64x256 .f32) (harg7 : arg7.IsWhole)
  (arg8 : Memref sig .tc .vmem S1x64 .f32) (harg8 : arg8.IsWhole)
  (arg9 : Memref sig .tc .vmem S32x64 .f32) (harg9 : arg9.IsWhole)
  (arg10 : Memref sig .tc .vmem S1x32 .f32) (harg10 : arg10.IsWhole)
  (arg11 : Memref sig .tc .vmem S128x32 .f32) (harg11 : arg11.IsWhole)
  (arg12 : Memref sig .tc .vmem S1x1 .f32) (harg12 : arg12.IsWhole)
  (arg13 : Memref sig .tc .vmem S32x256 .f32) (harg13 : arg13.IsWhole)
  (arg14 : Memref sig .tc .vmem S1x32 .f32) (harg14 : arg14.IsWhole)
  (arg15 : Memref sig .tc .vmem S128x32 .f32) (harg15 : arg15.IsWhole)
  (arg16 : Memref sig .tc .vmem S1x1 .f32) (harg16 : arg16.IsWhole)
  (arg17 : Memref sig .tc .smem S1x6 .f32) (harg17 : arg17.IsWhole)
  (arg18 : Memref sig .tc .vmem S1x512x256 .f32) (harg18 : arg18.IsWhole)
  (arg19 : Memref sig .tc .vmem S8x512x640 .i8) (harg19 : arg19.IsWhole)
  (arg20 : Memref sig .tc .vmem S8x512x640 .i8) (harg20 : arg20.IsWhole)
  (arg21 : Memref sig .tc .vmem S512x256 .f32) (harg21 : arg21.IsWhole)
  (arg22 : Memref sig .tc .vmem S512x256 .f32) (harg22 : arg22.IsWhole) (x0 : Vec F S1x512x256 .f32) (x1 : Vec F S256x256 .f32)
  (x2 : Vec F S256x256 .f32) (x3 : Vec F S256x256 .f32) (x4 : Vec F S256x256 .f32) (x5 : Vec F S1x256 .f32)
  (x6 : Vec F S64x256 .f32) (x7 : Vec F S1x64 .f32) (x8 : Vec F S32x64 .f32) (x9 : Vec F S1x32 .f32) (x10 : Vec F S128x32 .f32)
  (x11 : Vec F S1x1 .f32) (x12 : Vec F S32x256 .f32) (x13 : Vec F S1x32 .f32) (x14 : Vec F S128x32 .f32) (x15 : Vec F S1x1 .f32)
  (x16 : Vec F S1x6 .f32)

set_option maxRecDepth 100000 in
/-- The run's stores into the output block are these. -/
theorem run_out : (kernelRun0_A c i arg1 harg1 arg2 harg2 arg3 harg3 arg4 harg4 arg5 harg5 arg6 harg6 arg7 harg7 arg8 harg8 arg9 harg9 arg10 harg10
    arg11 harg11 arg12 harg12 arg13 harg13 arg14 harg14 arg15 harg15 arg16 harg16 arg17 harg17 arg18 harg18 arg19 harg19
    arg20 harg20 arg21 harg21 arg22 harg22 x0 x1 x2 x3 x4 x5 x6 x7 x8 x9 x10 x11 x12 x13 x14 x15 x16).1
    = outPieces (seen arg1 harg1 arg2 harg2 arg3 harg3 arg4 harg4 arg5 harg5 arg6 harg6 arg7 harg7 arg8 harg8 arg9 harg9 arg10 harg10 arg11
    harg11 arg12 harg12 arg13 harg13 arg14 harg14 arg15 harg15 arg16 harg16 arg17 harg17 x0 x1 x2 x3 x4 x5 x6 x7 x8 x9 x10
    x11 x12 x13 x14 x15 x16) arg19 arg20 arg21 arg22 := by
  sl_kernel_rfl

end Cert.Spiking.Kern

end
-- ==== Proof.Host.lean ====
/-
  What the kernel's windows stage at a grid point, off the arguments: the host's reshapes, the padded last layers, the six
  decays side by side, and the block of tokens.
-/
module

public import proofs.«01_k».proof.Proof.KernValue
public import proofs.«01_k».proof.Proof.RefValue
public import proofs.«01_k».proof.Proof.Gen.KernelIdeal.Frame.Runs
public import Idealize.ShloMosaic.Lib.Claim
public import Idealize.ShloMosaic.Lib.Routing.OpsSet
public import Idealize.ShloMosaic.Lib.Routing.OpsPair
public import Idealize.ShloMosaic.Lib.Pipeline.ValueKit.Point

@[expose] public section

noncomputable section

namespace Cert.Spiking.Kern

open Idealize.ShloMosaic Idealize.ShloMosaic.TcCoe
open Cert.KernelIdeal Cert.KernelIdeal.Gen

/-- The scatter that pads a last layer's weights writes them as row 0. -/
theorem padded (x : S128x32.Idx → EReal) (u : S32.Idx → EReal) (l : Fin 32) :
    Host.scatter scatter_S128x32_S1_S32_0_0_0_0 (fun _ b => b) x (broadcastInDim S1 ![] bcast_S_S1 (constantI S_ 32 0#32)) u
      (ix2 (0 : Fin 128) l) = u (ix1 l) := by
  have key : ∀ k : S32.Idx, scatter_S128x32_S1_S32_0_0_0_0.resultIdx? k (broadcastInDim S1 ![] bcast_S_S1 (constantI S_ 32 0#32))
      = some (ix2 (0 : Fin 128) l) ↔ (k 0).val = l.val := by
    intro k
    rw [Routing.resultIdx?_eq_some]
    constructor
    · intro h
      have := h 1
      have e : ((0 : Int) + ((k 0).val : Int)) = (l.val : Int) := this
      omega
    · intro h a
      fin_cases a
      · rfl
      · show (0 : Int) + ((k 0).val : Int) = (l.val : Int)
        omega
  refine Routing.scatter_set_hit _ _ _ _ _ _ (fun k hk => ?_) (ix1 l) ((key _).mpr rfl)
  congr 1
  funext a
  fin_cases a
  exact Fin.ext ((key k).mp hk)

/-- The windows' block indices. -/
theorem idx (t : Fin cfg0.N) : win0_0.index t = ![(grid0.coords t 0).val, 0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![0, 0]
    ∧ win0_15.index t = ![0, 0] ∧ win0_16.index t = ![0, 0] := by
  revert t; decide +kernel

/-- Six one-element arrays side by side, as one row. -/
def row6 (a0 a1 a2 a3 a4 a5 : FVec Ideal S1 .f32) : FVec Ideal S1x6 .f32 :=
  shapeCast S1x6 (concatenate S6 0 [⟨S1, a0⟩, ⟨S1, a1⟩, ⟨S1, a2⟩, ⟨S1, a3⟩, ⟨S1, a4⟩, ⟨S1, a5⟩]
    concatenates_S1_S1_S1_S1_S1_S1_S6_d0) shapeCasts_S6_S1x6

variable (a0 a1 a2 a3 a4 a5 : FVec Ideal S1 .f32)

theorem row6_0 : row6 a0 a1 a2 a3 a4 a5 (ix2 (0 : Fin 1) (0 : Fin 6)) = a0 (ix1 0) := by
  unfold row6; pointwise <;> rfl

theorem row6_1 : row6 a0 a1 a2 a3 a4 a5 (ix2 (0 : Fin 1) (1 : Fin 6)) = a1 (ix1 0) := by
  unfold row6; pointwise <;> rfl

theorem row6_2 : row6 a0 a1 a2 a3 a4 a5 (ix2 (0 : Fin 1) (2 : Fin 6)) = a2 (ix1 0) := by
  unfold row6; pointwise <;> rfl

theorem row6_3 : row6 a0 a1 a2 a3 a4 a5 (ix2 (0 : Fin 1) (3 : Fin 6)) = a3 (ix1 0) := by
  unfold row6; pointwise <;> rfl

theorem row6_4 : row6 a0 a1 a2 a3 a4 a5 (ix2 (0 : Fin 1) (4 : Fin 6)) = a4 (ix1 0) := by
  unfold row6; pointwise <;> rfl

theorem row6_5 : row6 a0 a1 a2 a3 a4 a5 (ix2 (0 : Fin 1) (5 : Fin 6)) = a5 (ix1 0) := by
  unfold row6; pointwise <;> rfl

/-- The decays' row is written by the first eight host operations. -/
theorem after8 (X : Valuation τ sig (Elt Ideal)) : StableHlo.after hostOps0 X (Proc.devRef .tc main_call0_v7)
    = StableHlo.after (hostOps0.take 8) X (Proc.devRef .tc main_call0_v7) := by
  show StableHlo.after (hostOps0.drop 8) (StableHlo.after (hostOps0.take 8) X) _ = _
  refine StableHlo.after_of_forall_not_mem _ _ ?_
  intro op h
  simp only [hostOps0, List.drop_succ_cons, List.drop_zero, List.mem_cons, List.not_mem_nil, or_false] at h
  rcases h with h | h | h | h | h | h | h | h | h | h | h | h | h | h | h | h | h | h <;> subst h <;> decide

/-- The decays' row, off the arguments. -/
theorem decays (X : Valuation τ sig (Elt Ideal)) : StableHlo.after hostOps0 X (Proc.devRef .tc main_call0_v7)
    = row6 (broadcastInDim S1 ![] bcast_S_S1 (X (Proc.devRef .tc main_arg16))) (broadcastInDim S1 ![] bcast_S_S1 (X (Proc.devRef .tc main_arg17)))
     (broadcastInDim S1 ![] bcast_S_S1 (X (Proc.devRef .tc main_arg18))) (broadcastInDim S1 ![] bcast_S_S1 (X (Proc.devRef .tc main_arg19)))
     (broadcastInDim S1 ![] bcast_S_S1 (X (Proc.devRef .tc main_arg20))) (broadcastInDim S1 ![] bcast_S_S1 (X (Proc.devRef .tc main_arg21))) := by
  rw [after8]
  simp only [hostOps0, List.take_succ_cons, List.take_zero, StableHlo.after_cons, StableHlo.after_nil]
  rw [StableHlo.reshape_result, StableHlo.nary_result]
  generalize hY : (StableHlo.TRef.unary (.of main_arg21 : StableHlo.TRef sig ⟨S_, .f32⟩) _ _).result _ = Y
  show row6 (Y (Proc.devRef .tc main_call0_v0)) (Y (Proc.devRef .tc main_call0_v1)) (Y (Proc.devRef .tc main_call0_v2)) (Y (Proc.devRef .tc main_call0_v3)) (Y (Proc.devRef .tc main_call0_v4)) (Y (Proc.devRef .tc main_call0_v5)) = _
  subst hY
  after_results_steps
  rfl

variable (m : (ℓ : Loc nD τ sig) → Buf (Elt Ideal) ℓ) (c : Dev nD) (t : Fin cfg0.N)

/-- What the body reads at a point. -/
def blk : Blk Ideal where
  x := iblk m c 0 t
  qw := iblk m c 1 t
  kw := iblk m c 2 t
  vw := iblk m c 3 t
  ow := iblk m c 4 t
  ob := iblk m c 5 t
  gw1 := iblk m c 6 t
  gb1 := iblk m c 7 t
  gw2 := iblk m c 8 t
  gb2 := iblk m c 9 t
  gw3 := iblk m c 10 t
  gb3 := iblk m c 11 t
  cw1 := iblk m c 12 t
  cb1 := iblk m c 13 t
  cw2 := iblk m c 14 t
  cb2 := iblk m c 15 t
  aq := iblk m c 16 t (ix2 (0 : Fin 1) (0 : Fin 6))
  bq := iblk m c 16 t (ix2 (0 : Fin 1) (1 : Fin 6))
  ak := iblk m c 16 t (ix2 (0 : Fin 1) (2 : Fin 6))
  bk := iblk m c 16 t (ix2 (0 : Fin 1) (3 : Fin 6))
  av := iblk m c 16 t (ix2 (0 : Fin 1) (4 : Fin 6))
  bv := iblk m c 16 t (ix2 (0 : Fin 1) (5 : Fin 6))

theorem blk_x (i : Fin 512) (d : Fin 256) : iblk m c 0 t (ix3 (0 : Fin 1) i d)
    = m ((c : Thread nD τ).loc main_arg0) (ix3 (⟨(grid0.coords t 0).val, (grid0.coords t 0).isLt⟩ : Fin 4) i d) := by
  blk_ext [iblk, V, idx t]

theorem blk_qw (i : Fin 256) (d : Fin 256) : iblk m c 1 t (ix2 i d) = m ((c : Thread nD τ).loc main_arg1) (ix2 i d) := by
  blk_ext [iblk, V, idx t]

theorem blk_kw (i : Fin 256) (d : Fin 256) : iblk m c 2 t (ix2 i d) = m ((c : Thread nD τ).loc main_arg2) (ix2 i d) := by
  blk_ext [iblk, V, idx t]

theorem blk_vw (i : Fin 256) (d : Fin 256) : iblk m c 3 t (ix2 i d) = m ((c : Thread nD τ).loc main_arg3) (ix2 i d) := by
  blk_ext [iblk, V, idx t]

theorem blk_ow (i : Fin 256) (d : Fin 256) : iblk m c 4 t (ix2 i d) = m ((c : Thread nD τ).loc main_arg4) (ix2 i d) := by
  blk_ext [iblk, V, idx t]

theorem blk_gw1 (i : Fin 64) (d : Fin 256) : iblk m c 6 t (ix2 i d) = m ((c : Thread nD τ).loc main_arg6) (ix2 i d) := by
  blk_ext [iblk, V, idx t]

theorem blk_gw2 (i : Fin 32) (d : Fin 64) : iblk m c 8 t (ix2 i d) = m ((c : Thread nD τ).loc main_arg8) (ix2 i d) := by
  blk_ext [iblk, V, idx t]

theorem blk_cw1 (i : Fin 32) (d : Fin 256) : iblk m c 12 t (ix2 i d) = m ((c : Thread nD τ).loc main_arg12) (ix2 i d) := by
  blk_ext [iblk, V, idx t]

theorem blk_ob (o : Fin 256) : iblk m c 5 t (ix2 (0 : Fin 1) o) = m ((c : Thread nD τ).loc main_arg5) (ix1 o) := by
  blk_ext! [iblk, V, idx t]

theorem blk_gb1 (o : Fin 64) : iblk m c 7 t (ix2 (0 : Fin 1) o) = m ((c : Thread nD τ).loc main_arg7) (ix1 o) := by
  blk_ext! [iblk, V, idx t]

theorem blk_gb2 (o : Fin 32) : iblk m c 9 t (ix2 (0 : Fin 1) o) = m ((c : Thread nD τ).loc main_arg9) (ix1 o) := by
  blk_ext! [iblk, V, idx t]

theorem blk_gb3 (o : Fin 1) : iblk m c 11 t (ix2 (0 : Fin 1) o) = m ((c : Thread nD τ).loc main_arg11) (ix1 o) := by
  blk_ext! [iblk, V, idx t]

theorem blk_cb1 (o : Fin 32) : iblk m c 13 t (ix2 (0 : Fin 1) o) = m ((c : Thread nD τ).loc main_arg13) (ix1 o) := by
  blk_ext! [iblk, V, idx t]

theorem blk_cb2 (o : Fin 1) : iblk m c 15 t (ix2 (0 : Fin 1) o) = m ((c : Thread nD τ).loc main_arg15) (ix1 o) := by
  blk_ext! [iblk, V, idx t]

theorem blk_gw3 (l : Fin 32) : iblk m c 10 t (ix2 (0 : Fin 128) l) = m ((c : Thread nD τ).loc main_arg10) (ix2 (0 : Fin 1) l) := by
  have e : iblk m c 10 t (ix2 (0 : Fin 128) l) = V m c main_call0_v11 (ix2 (0 : Fin 128) l) := by blk_ext [iblk, idx t]
  rw [e]
  entry_read
  refine (padded _ _ l).trans ?_
  pointwise
  rfl

theorem blk_cw2 (l : Fin 32) : iblk m c 14 t (ix2 (0 : Fin 128) l) = m ((c : Thread nD τ).loc main_arg14) (ix2 (0 : Fin 1) l) := by
  have e : iblk m c 14 t (ix2 (0 : Fin 128) l) = V m c main_call0_v15 (ix2 (0 : Fin 128) l) := by blk_ext [iblk, idx t]
  rw [e]
  entry_read
  refine (padded _ _ l).trans ?_
  pointwise
  rfl

theorem blk_ab (k : Fin 6) : iblk m c 16 t (ix2 (0 : Fin 1) k) = V m c main_call0_v7 (ix2 (0 : Fin 1) k) := by
  blk_ext [iblk, idx t]

theorem blk_aq : iblk m c 16 t (ix2 (0 : Fin 1) (0 : Fin 6)) = m ((c : Thread nD τ).loc main_arg16) ix0 := by
  rw [blk_ab, V, decays, row6_0]
  pointwise <;> rfl

theorem blk_bq : iblk m c 16 t (ix2 (0 : Fin 1) (1 : Fin 6)) = m ((c : Thread nD τ).loc main_arg17) ix0 := by
  rw [blk_ab, V, decays, row6_1]
  pointwise <;> rfl

theorem blk_ak : iblk m c 16 t (ix2 (0 : Fin 1) (2 : Fin 6)) = m ((c : Thread nD τ).loc main_arg18) ix0 := by
  rw [blk_ab, V, decays, row6_2]
  pointwise <;> rfl

theorem blk_bk : iblk m c 16 t (ix2 (0 : Fin 1) (3 : Fin 6)) = m ((c : Thread nD τ).loc main_arg19) ix0 := by
  rw [blk_ab, V, decays, row6_3]
  pointwise <;> rfl

theorem blk_av : iblk m c 16 t (ix2 (0 : Fin 1) (4 : Fin 6)) = m ((c : Thread nD τ).loc main_arg20) ix0 := by
  rw [blk_ab, V, decays, row6_4]
  pointwise <;> rfl

theorem blk_bv : iblk m c 16 t (ix2 (0 : Fin 1) (5 : Fin 6)) = m ((c : Thread nD τ).loc main_arg21) ix0 := by
  rw [blk_ab, V, decays, row6_5]
  pointwise <;> rfl

/-- The arguments of the batch element a grid point works on. -/
def argsAt (b : Fin 4) : Args :=
  Ref.args (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14))
    (m ((c : Thread nD τ).loc main_arg15)) (m ((c : Thread nD τ).loc main_arg16)) (m ((c : Thread nD τ).loc main_arg17))
    (m ((c : Thread nD τ).loc main_arg18)) (m ((c : Thread nD τ).loc main_arg19)) (m ((c : Thread nD τ).loc main_arg20))
    (m ((c : Thread nD τ).loc main_arg21)) b

theorem args_blk : (blk m c t).args = argsAt m c ⟨(grid0.coords t 0).val, (grid0.coords t 0).isLt⟩ := by
  unfold argsAt Ref.args Blk.args blk
  simp only [Args.mk.injEq]
  exact ⟨funext fun i => funext fun d => blk_x m c t i d, funext fun i => funext fun d => blk_qw m c t i d,
    funext fun i => funext fun d => blk_kw m c t i d, funext fun i => funext fun d => blk_vw m c t i d,
    funext fun i => funext fun d => blk_ow m c t i d, funext fun o => blk_ob m c t o,
    funext fun i => funext fun d => blk_gw1 m c t i d, funext fun o => blk_gb1 m c t o,
    funext fun i => funext fun d => blk_gw2 m c t i d, funext fun o => blk_gb2 m c t o,
    funext fun l => blk_gw3 m c t l, blk_gb3 m c t 0,
    funext fun i => funext fun d => blk_cw1 m c t i d, funext fun o => blk_cb1 m c t o,
    funext fun l => blk_cw2 m c t l, blk_cb2 m c t 0,
    blk_aq m c t, blk_bq m c t, blk_ak m c t, blk_bk m c t, blk_av m c t, blk_bv m c t⟩

end Cert.Spiking.Kern

end
-- ==== Proof.FrameI.lean ====
/-
  The ideal kernel's frame over the run of RunPartsI.lean: the proof data, with the result's block at every point, the
  body's obligation, the launch, and the arguments unchanged. The text follows the generated certificate's last module.
-/
module

public import proofs.«01_k».proof.Proof.RunPartsI
public import Idealize.ShloMosaic.Lib.Claim

@[expose] public section

-- the buffers' axes are long, and membership in a rectangle of them is decided coordinate by coordinate
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- The run's pieces for output 17 tile its block: one store of the whole block `S1x512x256`. -/
theorem cover0_A_17 (c : Dev nD) (i : grid0.Coords) (arg1 : Memref sig .tc .vmem S1x512x256 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S64x256 .f32) (harg7 : arg7.IsWhole) (arg8 : Memref sig .tc .vmem S1x64 .f32) (harg8 : arg8.IsWhole) (arg9 : Memref sig .tc .vmem S32x64 .f32) (harg9 : arg9.IsWhole) (arg10 : Memref sig .tc .vmem S1x32 .f32) (harg10 : arg10.IsWhole) (arg11 : Memref sig .tc .vmem S128x32 .f32) (harg11 : arg11.IsWhole) (arg12 : Memref sig .tc .vmem S1x1 .f32) (harg12 : arg12.IsWhole) (arg13 : Memref sig .tc .vmem S32x256 .f32) (harg13 : arg13.IsWhole) (arg14 : Memref sig .tc .vmem S1x32 .f32) (harg14 : arg14.IsWhole) (arg15 : Memref sig .tc .vmem S128x32 .f32) (harg15 : arg15.IsWhole) (arg16 : Memref sig .tc .vmem S1x1 .f32) (harg16 : arg16.IsWhole) (arg17 : Memref sig .tc .smem S1x6 .f32) (harg17 : arg17.IsWhole) (arg18 : Memref sig .tc .vmem S1x512x256 .f32) (harg18 : arg18.IsWhole) (arg19 : Memref sig .tc .vmem S8x512x640 .i8) (harg19 : arg19.IsWhole) (arg20 : Memref sig .tc .vmem S8x512x640 .i8) (harg20 : arg20.IsWhole) (arg21 : Memref sig .tc .vmem S512x256 .f32) (harg21 : arg21.IsWhole) (arg22 : Memref sig .tc .vmem S512x256 .f32) (harg22 : arg22.IsWhole)
    (x0 : Vec F S1x512x256 .f32) (x1 : Vec F S256x256 .f32) (x2 : Vec F S256x256 .f32) (x3 : Vec F S256x256 .f32) (x4 : Vec F S256x256 .f32) (x5 : Vec F S1x256 .f32) (x6 : Vec F S64x256 .f32) (x7 : Vec F S1x64 .f32) (x8 : Vec F S32x64 .f32) (x9 : Vec F S1x32 .f32) (x10 : Vec F S128x32 .f32) (x11 : Vec F S1x1 .f32) (x12 : Vec F S32x256 .f32) (x13 : Vec F S1x32 .f32) (x14 : Vec F S128x32 .f32) (x15 : Vec F S1x1 .f32) (x16 : Vec F S1x6 .f32) (y : S1x512x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 x15 x16).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 x15 x16).1 S1x512x256.size (by sl_kernel_rfl) y

/-- What the run leaves in output 17's staging buffer: its pieces read back over junk. -/
def out0_A_17 (c : Dev nD) (i : grid0.Coords) (arg1 : Memref sig .tc .vmem S1x512x256 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S64x256 .f32) (harg7 : arg7.IsWhole) (arg8 : Memref sig .tc .vmem S1x64 .f32) (harg8 : arg8.IsWhole) (arg9 : Memref sig .tc .vmem S32x64 .f32) (harg9 : arg9.IsWhole) (arg10 : Memref sig .tc .vmem S1x32 .f32) (harg10 : arg10.IsWhole) (arg11 : Memref sig .tc .vmem S128x32 .f32) (harg11 : arg11.IsWhole) (arg12 : Memref sig .tc .vmem S1x1 .f32) (harg12 : arg12.IsWhole) (arg13 : Memref sig .tc .vmem S32x256 .f32) (harg13 : arg13.IsWhole) (arg14 : Memref sig .tc .vmem S1x32 .f32) (harg14 : arg14.IsWhole) (arg15 : Memref sig .tc .vmem S128x32 .f32) (harg15 : arg15.IsWhole) (arg16 : Memref sig .tc .vmem S1x1 .f32) (harg16 : arg16.IsWhole) (arg17 : Memref sig .tc .smem S1x6 .f32) (harg17 : arg17.IsWhole) (arg18 : Memref sig .tc .vmem S1x512x256 .f32) (harg18 : arg18.IsWhole) (arg19 : Memref sig .tc .vmem S8x512x640 .i8) (harg19 : arg19.IsWhole) (arg20 : Memref sig .tc .vmem S8x512x640 .i8) (harg20 : arg20.IsWhole) (arg21 : Memref sig .tc .vmem S512x256 .f32) (harg21 : arg21.IsWhole) (arg22 : Memref sig .tc .vmem S512x256 .f32) (harg22 : arg22.IsWhole)
    (x0 : Vec F S1x512x256 .f32) (x1 : Vec F S256x256 .f32) (x2 : Vec F S256x256 .f32) (x3 : Vec F S256x256 .f32) (x4 : Vec F S256x256 .f32) (x5 : Vec F S1x256 .f32) (x6 : Vec F S64x256 .f32) (x7 : Vec F S1x64 .f32) (x8 : Vec F S32x64 .f32) (x9 : Vec F S1x32 .f32) (x10 : Vec F S128x32 .f32) (x11 : Vec F S1x1 .f32) (x12 : Vec F S32x256 .f32) (x13 : Vec F S1x32 .f32) (x14 : Vec F S128x32 .f32) (x15 : Vec F S1x1 .f32) (x16 : Vec F S1x6 .f32) : Vec F S1x512x256 .f32 :=
  VO0_17.read (Elt F) (VO0_17.writes (Elt F) VO0_17.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 x15 x16).1)

/-! ## What the outputs hold after each point -/

/-- What the outputs' staging buffers hold after the body at point `t`: the run's contents at
    the point's memrefs and input blocks. -/
def outsAt0 (c : Dev nD) (t : Fin cfg0.N) : Vec F S1x512x256 .f32 :=
  out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => (outsAt0 m c t)
    | ⟨_ + 18, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t))

set_option maxHeartbeats 2000000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17]
  rw [show (dats m 0 c).Φ t.castSucc = Pipeline.ΦA spec0 c from rfl, PhiA0_eq]
  unfold outsAt0
  unfold out0_A_17
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply ((kernelRun0_A c (grid0.coords t) _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [HS0]; · iexact HS0
  isplitl [HS1]; · iexact HS1
  isplitl [HS2]; · iexact HS2
  isplitl [HS3]; · iexact HS3
  iintro ⟨H0, H1, H2, H3, H4, H5, H6, H7, H8, H9, H10, H11, H12, H13, H14, H15, H16, ⟨%e17, H17⟩, ⟨%fT0, HS0⟩, ⟨%fT1, HS1⟩, ⟨%fT2, HS2⟩, ⟨%fT3, HS3⟩⟩
  isplitl [HS0 HS1 HS2 HS3 Hg]
  · isplitl [HS0 HS1 HS2 HS3]
    · isplitl [HS0]
      · iexists _; unfold owns; iexists _; isplitr
        swap; · iexact HS0
        ipureintro; rfl
      isplitl [HS1]
      · iexists _; unfold owns; iexists _; isplitr
        swap; · iexact HS1
        ipureintro; rfl
      isplitl [HS2]
      · iexists _; unfold owns; iexists _; isplitr
        swap; · iexact HS2
        ipureintro; rfl
      iexists _; unfold owns; iexists _; isplitr
      swap; · iexact HS3
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  unfold owns; iexists _; isplitr
  swap; · iexact H17
  ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21))
      ∧ r.2.sem = fun _ => 0) :=
  θ_run_and (unchanged m ρ) ((θ_run defs _ _).mono (fun _ h => h.2) (run_main_quiescent m ρ))

end Cert.KernelIdeal.Gen

end
-- ==== Proof.ValueI.lean ====
/-
  The ideal kernel's result array, block by block, over FrameI.lean. The text follows the generated module of the values.
-/
module

public import proofs.«01_k».proof.Proof.FrameI
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## Blockwise: what each point writes back, and the final array block by block -/

/-- WHAT POINT `t` WRITES BACK to output window 17's array: the run's contents for that window after the body (`Gen.outsAt0`), read through the window's block. -/
theorem flushed17 (c : Dev nD) (t : Fin cfg0.N) :
    (dats m 0 c).flushed 17 t = (cfg0.win 17).cut (grid0.coords t) (outsAt0 m c t) := by
  show (cfg0.win 17).cut (grid0.coords t) ((dats m 0 c).after 17 t) = _
  rw [after0_17]

/-- … so at a point where case A runs, what its write-back would write is that case's NAMED TERM for the window (`Gen.out0_A_17`: the pieces
    its run found, read back) at the point's memrefs and input blocks, and for an output the case reads back what the point before left (`Gen.outsAt0` at `t - 1`) — the kernel's one case, `Gen.outsAt0` by definition. -/
theorem flushed17_A (c : Dev nD) (t : Fin cfg0.N) :
    (dats m 0 c).flushed 17 t = (cfg0.win 17).cut (grid0.coords t) (out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) := by
  simp only [flushed17, outsAt0]

/-- The index map sends distinct grid points to distinct block indices (decided over the 4 points). -/
theorem idx_inj17 : ∀ t t' : Fin cfg0.N, win0_17.index t = win0_17.index t' → t = t' :=
  (by decide +kernel : ∀ t t' : Fin grid0.N, win0_17.index t = win0_17.index t' → t = t')

/-- So two flushing points' blocks share no array index (Lib/Pipeline/Cells.lean `Window.disjoint_blk`). -/
theorem disjoint17 : ∀ t t' : Fin cfg0.N, (cfg0.win 17).flush t = true → (cfg0.win 17).flush t' = true → t ≠ t' →
    Disjoint ((cfg0.win 17).blk t).view.set ((cfg0.win 17).blk t').view.set :=
  fun t t' _ _ hne => (cfg0.win 17).disjoint_blk fun h => hne (idx_inj17 t t' h)

/-- BLOCK `t` OF THE FINAL ARRAY, read back through the window, is what point `t` wrote back (`flushed17`), for every
    point that writes back: no other point's block meets it. -/
theorem blocks17 (c : Dev nD) (t : Fin cfg0.N) (hf : (cfg0.win 17).flush t = true) :
    ((cfg0.win 17).blk t).view.read (Elt F) ((dats m 0 c).arrAt 17 cfg0.N) = (dats m 0 c).flushed 17 t :=
  (dats m 0 c).read_blk_arrAt_eq_flushed 17 disjoint17 cfg0.N t t.isLt hf

/-- An index that no flushing point's block covers keeps output window 17's array contents at region entry. -/
theorem entry17 (c : Dev nD) (i : S4x512x256.Idx) (h : ∀ t : Fin cfg0.N, (cfg0.win 17).flush t = true → i ∉ ((cfg0.win 17).blk t).view.set) :
    (dats m 0 c).arrAt 17 cfg0.N i = V m c (Pipeline.arrRef spec0 17) i := by
  rw [(dats m 0 c).arrAt_apply_of_forall_not_mem 17 cfg0.N i (fun t _ hf => h t hf), A_eq]

/-- After the frame run, output window 17's array is `(dats m 0 c).arrAt 17 N`. -/
theorem post17 (r : PUnit × MemSt nD τ sig (Elt F)) (h : Pipeline.FramePost cfgs (dats m) 0 (V m) r) (c : Dev nD) :
    r.2.mem ((c : Thread nD τ).loc main_v0) = (dats m 0 c).arrAt 17 cfg0.N :=
  (h c).1 17

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: input window 6 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_main_arg6 m c)))

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched: input window 8 stages it and never writes it back. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).1 8).trans (((dats m 0 c).arrAt_in 8 rfl _).trans ((A_eq m c 8).trans (V_main_arg8 m c)))

/-- After the frame run, argument `main_arg9` is as launched: no window stages it, and the run leaves the region's other buffers as they were. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- After the frame run, argument `main_arg10` is as launched: no window stages it, and the run leaves the region's other buffers as they were. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

/-- After the frame run, argument `main_arg11` is as launched: no window stages it, and the run leaves the region's other buffers as they were. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

/-- After the frame run, argument `main_arg12` is as launched: input window 12 stages it and never writes it back. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).1 12).trans (((dats m 0 c).arrAt_in 12 rfl _).trans ((A_eq m c 12).trans (V_main_arg12 m c)))

/-- After the frame run, argument `main_arg13` is as launched: no window stages it, and the run leaves the region's other buffers as they were. -/
theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).2 main_arg13 (Pipeline.mem_restRefs_of main_arg13 (by decide) (by decide))).trans (V_main_arg13 m c)

/-- After the frame run, argument `main_arg14` is as launched: no window stages it, and the run leaves the region's other buffers as they were. -/
theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).2 main_arg14 (Pipeline.mem_restRefs_of main_arg14 (by decide) (by decide))).trans (V_main_arg14 m c)

/-- After the frame run, argument `main_arg15` is as launched: no window stages it, and the run leaves the region's other buffers as they were. -/
theorem kept_main_arg15 (r : PUnit × MemSt nD τ sig (Elt F)) (h : Pipeline.FramePost cfgs (dats m) 0 (V m) r) (c : Dev nD) :
    r.2.mem ((c : Thread nD τ).loc main_arg15) = m ((c : Thread nD τ).loc main_arg15) :=
  ((h c).2 main_arg15 (Pipeline.mem_restRefs_of main_arg15 (by decide) (by decide))).trans (V_main_arg15 m c)

/-- After the frame run, argument `main_arg16` is as launched: no window stages it, and the run leaves the region's other buffers as they were. -/
theorem kept_main_arg16 (r : PUnit × MemSt nD τ sig (Elt F)) (h : Pipeline.FramePost cfgs (dats m) 0 (V m) r) (c : Dev nD) :
    r.2.mem ((c : Thread nD τ).loc main_arg16) = m ((c : Thread nD τ).loc main_arg16) :=
  ((h c).2 main_arg16 (Pipeline.mem_restRefs_of main_arg16 (by decide) (by decide))).trans (V_main_arg16 m c)

/-- After the frame run, argument `main_arg17` is as launched: no window stages it, and the run leaves the region's other buffers as they were. -/
theorem kept_main_arg17 (r : PUnit × MemSt nD τ sig (Elt F)) (h : Pipeline.FramePost cfgs (dats m) 0 (V m) r) (c : Dev nD) :
    r.2.mem ((c : Thread nD τ).loc main_arg17) = m ((c : Thread nD τ).loc main_arg17) :=
  ((h c).2 main_arg17 (Pipeline.mem_restRefs_of main_arg17 (by decide) (by decide))).trans (V_main_arg17 m c)

/-- After the frame run, argument `main_arg18` is as launched: no window stages it, and the run leaves the region's other buffers as they were. -/
theorem kept_main_arg18 (r : PUnit × MemSt nD τ sig (Elt F)) (h : Pipeline.FramePost cfgs (dats m) 0 (V m) r) (c : Dev nD) :
    r.2.mem ((c : Thread nD τ).loc main_arg18) = m ((c : Thread nD τ).loc main_arg18) :=
  ((h c).2 main_arg18 (Pipeline.mem_restRefs_of main_arg18 (by decide) (by decide))).trans (V_main_arg18 m c)

/-- After the frame run, argument `main_arg19` is as launched: no window stages it, and the run leaves the region's other buffers as they were. -/
theorem kept_main_arg19 (r : PUnit × MemSt nD τ sig (Elt F)) (h : Pipeline.FramePost cfgs (dats m) 0 (V m) r) (c : Dev nD) :
    r.2.mem ((c : Thread nD τ).loc main_arg19) = m ((c : Thread nD τ).loc main_arg19) :=
  ((h c).2 main_arg19 (Pipeline.mem_restRefs_of main_arg19 (by decide) (by decide))).trans (V_main_arg19 m c)

/-- After the frame run, argument `main_arg20` is as launched: no window stages it, and the run leaves the region's other buffers as they were. -/
theorem kept_main_arg20 (r : PUnit × MemSt nD τ sig (Elt F)) (h : Pipeline.FramePost cfgs (dats m) 0 (V m) r) (c : Dev nD) :
    r.2.mem ((c : Thread nD τ).loc main_arg20) = m ((c : Thread nD τ).loc main_arg20) :=
  ((h c).2 main_arg20 (Pipeline.mem_restRefs_of main_arg20 (by decide) (by decide))).trans (V_main_arg20 m c)

/-- After the frame run, argument `main_arg21` is as launched: no window stages it, and the run leaves the region's other buffers as they were. -/
theorem kept_main_arg21 (r : PUnit × MemSt nD τ sig (Elt F)) (h : Pipeline.FramePost cfgs (dats m) 0 (V m) r) (c : Dev nD) :
    r.2.mem ((c : Thread nD τ).loc main_arg21) = m ((c : Thread nD τ).loc main_arg21) :=
  ((h c).2 main_arg21 (Pipeline.mem_restRefs_of main_arg21 (by decide) (by decide))).trans (V_main_arg21 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0) = (dats m 0 c).arrAt 17 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21) :=
  (θ_run defs _ _).mono (fun r h c => ⟨post17 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c,
      kept_main_arg15 m r h c,
      kept_main_arg16 m r h c,
      kept_main_arg17 m r h c,
      kept_main_arg18 m r h c,
      kept_main_arg19 m r h c,
      kept_main_arg20 m r h c,
      kept_main_arg21 m r h c⟩)
    (run_main m ρ)

end Cert.KernelIdeal.Value

end
-- ==== Proof.Output.lean ====
/-
  What a grid point leaves in its output block, and the result array.
-/
module

public import proofs.«01_k».proof.Proof.Pieces
public import proofs.«01_k».proof.Proof.Host
public import proofs.«01_k».proof.Proof.ValueI
public import Idealize.ShloMosaic.Lib.Pipeline.ValueKit
public import Idealize.ShloMosaic.Lib.VecWindow

@[expose] public section

noncomputable section

namespace Cert.Spiking.Kern

open Idealize.ShloMosaic Idealize.ShloMosaic.TcCoe Idealize.ShloMosaic.Tactic
open Cert.KernelIdeal Cert.KernelIdeal.Gen

/-- Scratch read back whole, at one element. -/
theorem loadF_apply (M : Memref sig .tc .vmem S512x256 .f32) (L : List (View.Piece (Elt Ideal) S512x256 .f32)) (i : Fin 512) (d : Fin 256) :
    loadF M L (ix2 i d) = View.canon L (ix2 i d) := by
  unfold loadF
  rw [View.readCov_eq_canon']
  refine congrArg (View.canon L) (funext fun a => Fin.ext ?_)
  fin_cases a
  · show 0 + 1 * i.val = i.val
    omega
  · show 0 + 1 * d.val = d.val
    omega

/-- A head's bytes read back, at one element. -/
theorem loadB_apply (M : Memref sig .tc .vmem S8x512x640 .i8) (L : List (View.Piece (Elt Ideal) S8x512x640 .i8)) (h : Fin 8)
    (i : Fin 512) (k : Fin 640) : loadB M L h (ix3 (0 : Fin 1) i k) = View.canon L (ix3 h i k) := by
  unfold loadB
  rw [View.readCov_eq_canon']
  refine congrArg (View.canon L) (funext fun a => Fin.ext ?_)
  fin_cases a
  · show h.val + 1 * 0 = h.val
    omega
  · show 0 + 1 * i.val = i.val
    omega
  · show 0 + 1 * k.val = k.val
    omega

section Block

variable (B : Blk Ideal) (M19 M20 : Memref sig .tc .vmem S8x512x640 .i8) (M21 M22 : Memref sig .tc .vmem S512x256 .f32)

/-- One head's context, off the scratch that the scan filled. -/
theorem head_apply (h : Fin 8) (i : Fin 512) (k : Fin 32) :
    ctxV (expV (scoreV (loadB M19 B.qPieces h) (loadB M20 B.kPieces h))) (meanV (loadF M21 B.vPieces)) h (ix2 i k) = B.args.ctx h i k :=
  B.ctx_eq h _ _ _ (fun i k => (loadB_apply M19 _ h i k).trans (canon_piecesT _ _ _ _ _))
    (fun i k => (loadB_apply M20 _ h i k).trans (canon_piecesT _ _ _ _ _))
    (fun i d => (loadF_apply M21 _ i d).trans (canon_sumsT _ _ _ _ _)) i k

/-- The contexts of all heads, side by side. -/
def ctxAll : S512x256.Idx → Elt Ideal .f32 := fun y =>
  B.args.ctx ⟨(y 1).val / 32, by have : (y 1).val < 256 := (y 1).isLt; omega⟩ (y 0) ⟨(y 1).val % 32, by omega⟩

theorem canon_ctxPieces (y : S512x256.Idx) : View.canon (ctxPieces B M19 M20 M21) y = ctxAll B y := by
  refine View.canon_apply_of_pieces (Val := Elt Ideal) (ctxAll B) _ ?_ y ?_
  · intro p hp x
    obtain ⟨h, -, rfl⟩ := List.mem_map.mp hp
    dsimp only at x ⊢
    obtain ⟨i, k, rfl⟩ : ∃ (i : Fin 512) (k : Fin 32), x = ix2 i k := ⟨x 0, x 1, by
      funext a
      fin_cases a <;> rfl⟩
    rw [shapeCast_self, head_apply]
    unfold ctxAll
    have v0 : ((Rect.unit (s := S512x256) ![0, 32 * h.val] S512x32.size
      ((by decide : ∀ (h : Fin 8) (a : Fin 2), ![0, 32 * h.val] a + S512x32.size a ≤ S512x256.size a) h)).emb (ix2 i k) 0) = i :=
      Fin.ext (by show 0 + 1 * i.val = i.val; omega)
    have v1 : ((Rect.unit (s := S512x256) ![0, 32 * h.val] S512x32.size
      ((by decide : ∀ (h : Fin 8) (a : Fin 2), ![0, 32 * h.val] a + S512x32.size a ≤ S512x256.size a) h)).emb (ix2 i k) 1).val = 32 * h.val + k.val := by
      show 32 * h.val + 1 * k.val = _
      omega
    have hk := k.isLt
    rw [v0]
    refine congrArg₂ (fun a b => B.args.ctx a i b) (Fin.ext ?_) (Fin.ext ?_)
    · show h.val = _ / 32
      rw [v1]
      omega
    · show k.val = _ % 32
      rw [v1]
      omega
  · have h0 : (y 0).val < 512 := (y 0).isLt
    have h1 : (y 1).val < 256 := (y 1).isLt
    refine ⟨_, List.mem_map.mpr ⟨⟨(y 1).val / 32, by omega⟩, mem_down8 _, rfl⟩, ?_⟩
    rw [Rect.mem_set_unit]
    intro a
    fin_cases a
    · show 0 ≤ (y 0).val ∧ (y 0).val < 0 + 512
      omega
    · show 32 * ((y 1).val / 32) ≤ (y 1).val ∧ (y 1).val < 32 * ((y 1).val / 32) + 32
      omega

/-- The output block. -/
theorem canon_outPieces (i : Fin 512) (o : Fin 256) :
    View.canon (outPieces B M19 M20 M21 M22) (ix3 (0 : Fin 1) i o) = B.args.out i o := by
  unfold outPieces
  rw [View.canon_unit_zero (by decide), outV_apply]
  unfold Args.out
  refine congrArg₂ (· + ·) (Finset.sum_congr rfl fun d _ => ?_) rfl
  refine congrArg (· * B.ow (ix2 o d)) ?_
  rw [loadF_apply, canon_ctxPieces]
  rfl

end Block

/-- A load of a whole block reads the block. -/
theorem load_whole {sp : Space} {s : Shape} {e : EltTy} (M : Memref sig .tc sp s e) (hM : M.IsWhole) (x : s.Idx → Elt Ideal e)
    {off : Fin s.rank → ℕ} (inb : ∀ a, off a + s.size a ≤ s.size a) :
    View.readAt (Elt Ideal) M.view (Rect.unit off s.size inb).toLoadRect (hM.unread x) = x :=
  (View.readAt_full M.view _ inb).trans (hM.read_unread x)

section Seen

variable (arg1 : Memref sig .tc .vmem S1x512x256 .f32) (harg1 : arg1.IsWhole)
  (arg2 : Memref sig .tc .vmem S256x256 .f32) (harg2 : arg2.IsWhole)
  (arg3 : Memref sig .tc .vmem S256x256 .f32) (harg3 : arg3.IsWhole)
  (arg4 : Memref sig .tc .vmem S256x256 .f32) (harg4 : arg4.IsWhole)
  (arg5 : Memref sig .tc .vmem S256x256 .f32) (harg5 : arg5.IsWhole)
  (arg6 : Memref sig .tc .vmem S1x256 .f32) (harg6 : arg6.IsWhole)
  (arg7 : Memref sig .tc .vmem S64x256 .f32) (harg7 : arg7.IsWhole)
  (arg8 : Memref sig .tc .vmem S1x64 .f32) (harg8 : arg8.IsWhole)
  (arg9 : Memref sig .tc .vmem S32x64 .f32) (harg9 : arg9.IsWhole)
  (arg10 : Memref sig .tc .vmem S1x32 .f32) (harg10 : arg10.IsWhole)
  (arg11 : Memref sig .tc .vmem S128x32 .f32) (harg11 : arg11.IsWhole)
  (arg12 : Memref sig .tc .vmem S1x1 .f32) (harg12 : arg12.IsWhole)
  (arg13 : Memref sig .tc .vmem S32x256 .f32) (harg13 : arg13.IsWhole)
  (arg14 : Memref sig .tc .vmem S1x32 .f32) (harg14 : arg14.IsWhole)
  (arg15 : Memref sig .tc .vmem S128x32 .f32) (harg15 : arg15.IsWhole)
  (arg16 : Memref sig .tc .vmem S1x1 .f32) (harg16 : arg16.IsWhole)
  (arg17 : Memref sig .tc .smem S1x6 .f32) (harg17 : arg17.IsWhole) (x0 : Vec Ideal S1x512x256 .f32) (x1 : Vec Ideal S256x256 .f32)
  (x2 : Vec Ideal S256x256 .f32) (x3 : Vec Ideal S256x256 .f32) (x4 : Vec Ideal S256x256 .f32) (x5 : Vec Ideal S1x256 .f32)
  (x6 : Vec Ideal S64x256 .f32) (x7 : Vec Ideal S1x64 .f32) (x8 : Vec Ideal S32x64 .f32) (x9 : Vec Ideal S1x32 .f32) (x10 : Vec Ideal S128x32 .f32)
  (x11 : Vec Ideal S1x1 .f32) (x12 : Vec Ideal S32x256 .f32) (x13 : Vec Ideal S1x32 .f32) (x14 : Vec Ideal S128x32 .f32) (x15 : Vec Ideal S1x1 .f32)
  (x16 : Vec Ideal S1x6 .f32)

/-- What the body loads are the blocks staged. -/
theorem seen_eq : seen arg1 harg1 arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 x0 x1 x2 x3 x4 x5 x6 x7 x8 x9 x10
      x11 x12 x13 x14 x15 x16
    = { x := x0, qw := x1, kw := x2, vw := x3, ow := x4, ob := x5, gw1 := x6, gb1 := x7, gw2 := x8, gb2 := x9, gw3 := x10, gb3
      := x11, cw1 := x12, cb1 := x13, cw2 := x14, cb2 := x15, aq := x16 (ix2 (0 : Fin 1) (0 : Fin 6)), bq := x16 (ix2 (0 : Fin
      1) (1 : Fin 6)), ak := x16 (ix2 (0 : Fin 1) (2 : Fin 6)), bk := x16 (ix2 (0 : Fin 1) (3 : Fin 6)), av := x16 (ix2 (0 :
      Fin 1) (4 : Fin 6)), bv := x16 (ix2 (0 : Fin 1) (5 : Fin 6)) } := by
  unfold seen
  simp only [Blk.mk.injEq]
  refine ⟨load_whole _ _ x0 _, load_whole _ _ x1 _, load_whole _ _ x2 _, load_whole _ _ x3 _, load_whole _ _ x4 _, load_whole _ _ x5 _, load_whole _ _ x6 _, load_whole _ _ x7 _, load_whole _ _ x8 _, load_whole _ _ x9 _, load_whole _ _ x10 _, load_whole _ _ x11 _, load_whole _ _ x12 _, load_whole _ _ x13 _, load_whole _ _ x14 _, load_whole _ _ x15 _, ?_, ?_, ?_, ?_, ?_, ?_⟩ <;>
    refine (congrFun (harg17.read_unread x16) _).trans (congrArg x16 ?_) <;>
    exact funext fun a => by fin_cases a <;> rfl

end Seen

variable (m : (ℓ : Loc nD τ sig) → Buf (Elt Ideal) ℓ) (c : Dev nD)

/-- What a grid point leaves in its output block: its batch element's result. -/
theorem outsAt_apply (t : Fin cfg0.N) (i : Fin 512) (o : Fin 256) :
    outsAt0 m c t (ix3 (0 : Fin 1) i o) = (argsAt m c ⟨(grid0.coords t 0).val, (grid0.coords t 0).isLt⟩).out i o := by
  rw [← args_blk m c t]
  unfold outsAt0 out0_A_17
  rw [View.read_writes_junk_eq_canon, run_out, canon_outPieces, seen_eq]
  rfl

theorem idx17 (t : Fin cfg0.N) : win0_17.index t = ![(grid0.coords t 0).val, 0, 0] := by
  revert t; decide +kernel

/-- Where a grid point's block stands in the result array. -/
theorem emb17 (t : Fin cfg0.N) (i : Fin 512) (o : Fin 256) :
    ((cfg0.win 17).blk t).view.emb (ix3 (0 : Fin 1) i o) = ix3 (⟨(grid0.coords t 0).val, (grid0.coords t 0).isLt⟩ : Fin 4) i o := by
  funext a
  refine Fin.ext ?_
  blk_simp
  rw [idx17 t]
  fin_cases a
  · show (grid0.coords t 0).val * 1 + 0 = (grid0.coords t 0).val
    omega
  · show 0 * 512 + i.val = i.val
    omega
  · show 0 * 256 + o.val = o.val
    omega

/-- The result array, element by element. -/
def result : S4x512x256.Idx → Elt Ideal .f32 := fun y => (argsAt m c (y 0)).out (y 1) (y 2)

theorem result_ix3 (b : Fin 4) (i : Fin 512) (o : Fin 256) : result m c (ix3 b i o) = (argsAt m c b).out i o := rfl

theorem mem_block (y : S1x512x256.Idx) : ∃ (i : Fin 512) (o : Fin 256), y = ix3 (0 : Fin 1) i o := ⟨y 1, y 2, by
  funext a
  fin_cases a
  · exact Subsingleton.elim (α := Fin 1) _ _
  · rfl
  · rfl⟩

theorem after_apply (t : Fin cfg0.N) (y : S1x512x256.Idx) :
    outsAt0 m c t y = result m c (((cfg0.win 17).blk t).view.emb y) := by
  obtain ⟨i, o, rfl⟩ := mem_block y
  rw [outsAt_apply]
  refine Eq.trans ?_ (congrArg (result m c) (emb17 t i o)).symm
  rw [result_ix3]

set_option maxHeartbeats 4000000 in
/-- The result array after the run. -/
theorem final : (dats m 0 c).arrAt 17 cfg0.N = result m c := by
  refine (dats m 0 c).arrAt_eq_of_covers 17 _ (by decide +kernel) fun t hf y => ?_
  rw [after0_17]
  exact after_apply m c t y

end Cert.Spiking.Kern

end
-- ==== Proof.Agree.lean ====
/-
  The kernel at the extended reals leaves what the reference leaves, and both leave their arguments.
-/
module

public import proofs.«01_k».proof.Proof.Frames
public import proofs.«01_k».proof.Proof.Output

@[expose] public section

noncomputable section

namespace Cert.Proof

open Idealize.ShloMosaic Idealize.ShloMosaic.TcCoe Idealize.SL.Sem

instance : Cert.KernelIdeal.Facts := Cert.KernelIdeal.Gen.facts

/-- The ideal kernel terminates, with its arguments unchanged and its counters at zero. -/
theorem frame_kernelIdeal : Cert.quiescent_KernelIdeal (hKernelIdeal := Cert.KernelIdeal.Gen.facts) :=
  fun m ρ _ => Cert.KernelIdeal.Gen.frame m ρ

/-- The reference's result, over equal arguments, is the kernel's. -/
theorem reference_result (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) :
    Cert.ReferenceIdeal.Step.R_main_v110 (refState m' c 20) (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10))
      (m' ((c.tc : Thread Cert.ReferenceIdeal.nD Cert.ReferenceIdeal.τ).loc Cert.ReferenceIdeal.main_arg11))
      (m' ((c.tc : Thread Cert.ReferenceIdeal.nD Cert.ReferenceIdeal.τ).loc Cert.ReferenceIdeal.main_arg12))
      (m' ((c.tc : Thread Cert.ReferenceIdeal.nD Cert.ReferenceIdeal.τ).loc Cert.ReferenceIdeal.main_arg13))
      (m' ((c.tc : Thread Cert.ReferenceIdeal.nD Cert.ReferenceIdeal.τ).loc Cert.ReferenceIdeal.main_arg14))
      (m' ((c.tc : Thread Cert.ReferenceIdeal.nD Cert.ReferenceIdeal.τ).loc Cert.ReferenceIdeal.main_arg15))
      = Cert.Spiking.Kern.result m c := by
  obtain ⟨h0, h1, h2, h3, h4, h5, h6, h7, h8, h9, h10, h11, h12, h13, h14, h15, h16, h17, h18, h19, h20, h21⟩ := h
  funext y
  obtain ⟨b, i, o, rfl⟩ : ∃ (b : Fin 4) (i : Fin 512) (o : Fin 256), y = ix3 b i o := ⟨y 0, y 1, y 2, by
    funext a
    fin_cases a <;> rfl⟩
  refine (Cert.Spiking.Ref.value (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) b i o).trans ?_
  rw [Cert.Spiking.Kern.result_ix3]
  unfold Cert.Spiking.Kern.argsAt
  rw [h0, h1, h2, h3, h4, h5, h6, h7, h8, h9, h10, h11, h12, h13, h14, h15, h16, h17, h18, h19, h20, h21]

/-- From equal arguments both programs end with equal results. -/
theorem algebraic : Cert.algebraic_KernelIdeal_ReferenceIdeal (hKernelIdeal := Cert.KernelIdeal.Gen.facts)
    (hReferenceIdeal := Cert.ReferenceIdeal.Gen.facts) := fun m g m' g' _ hargs =>
  ⟨fun c => Cert.Spiking.Kern.result m c,
    (θ_run (Cert.KernelIdeal.defs (F := Ideal)) _ _).mono
      (fun r h c => ⟨(h c).1.trans (Cert.Spiking.Kern.final m c), (h c).2⟩) (Cert.KernelIdeal.Value.run_blocks (F := Ideal) m g),
    (θ_run (Cert.ReferenceIdeal.defs (F := Ideal)) _ _).mono
      (fun r h c => ⟨(h c).1.trans (reference_result m m' c (hargs c)), (h c).2⟩)
      (Cert.ReferenceIdeal.StepRun.run_iter (F := Ideal) m' g' (refState m') (fun _ => rfl) (fun _ _ => rfl))⟩

end Cert.Proof

end
-- ==== Proof.lean ====
/-
  The proof of the five claims: the kernel, the ideal kernel and the reference each terminate with their arguments
  unchanged; the ideal kernel names one constant of the kernel; and over the extended reals the ideal kernel and the
  reference end with equal results.
-/
module

public import proofs.«01_k».proof.Defs
public import proofs.«01_k».proof.Proof.Agree

@[expose] public section

noncomputable section

namespace Cert.Proof

theorem claim : Cert.Claim := ⟨Cert.Kernel.Gen.facts, Cert.KernelIdeal.Gen.facts, Cert.ReferenceIdeal.Gen.facts,
  frame_kernel, frame_kernelIdeal, frame_reference, preserves, algebraic⟩

end Cert.Proof

end
